-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S512x768 : Shape := ⟨2, ![512, 768]⟩
abbrev S768x512 : Shape := ⟨2, ![768, 512]⟩
abbrev S_ : Shape := ⟨0, ![]⟩

class Facts : Prop where
  bcast_S_S512x768 : S_.BroadcastsInDim S512x768 (![] : Fin 0 → Fin S512x768.rank)
  bcast_S_S768x512 : S_.BroadcastsInDim S768x512 (![] : Fin 0 → Fin S768x512.rank)

variable [Facts]

def fn {F : FTy → Type} [FloatOps F] (main_arg0 : FVec F S512x768 .bf16) (main_arg1 : FVec F S768x512 .bf16) (main_arg2 : FVec F S768x512 .bf16) (main_arg3 : FVec F S768x512 .bf16) (main_arg4 : FVec F S512x768 .bf16) : IVec S512x768 1 × IVec S768x512 1 × IVec S768x512 1 :=
  let main_v0 : FVec F S512x768 .bf16 := Host.absf main_arg0
  let main_cst : FVec F S_ .bf16 := constant S_ .bf16 0x7F80#16
  let main_v1 : FVec F S512x768 .bf16 := broadcastInDim S512x768 ![] bcast_S_S512x768 main_cst
  let main_v2 : IVec S512x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S768x512 .bf16 := Host.absf main_arg2
  let main_cst_1 : FVec F S_ .bf16 := constant S_ .bf16 0x7F80#16
  let main_v7 : FVec F S768x512 .bf16 := broadcastInDim S768x512 ![] bcast_S_S768x512 main_cst_1
  let main_v8 : IVec S768x512 1 := cmpf .olt main_v6 main_v7
  (main_v2, main_v5, main_v8)
-- ==== Pre_scores_finite_ReferenceIdeal.lean ====
abbrev S512x768 : Shape := ⟨2, ![512, 768]⟩
abbrev S768x16384 : Shape := ⟨2, ![768, 16384]⟩
abbrev S16384x768 : Shape := ⟨2, ![16384, 768]⟩
abbrev S_ : Shape := ⟨0, ![]⟩

class Facts : Prop where
  bcast_S_S512x768 : S_.BroadcastsInDim S512x768 (![] : Fin 0 → Fin S512x768.rank)
  bcast_S_S768x16384 : S_.BroadcastsInDim S768x16384 (![] : Fin 0 → Fin S768x16384.rank)

variable [Facts]

def fn {F : FTy → Type} [FloatOps F] (main_arg0 : FVec F S512x768 .bf16) (main_arg1 : FVec F S768x16384 .bf16) (main_arg2 : FVec F S768x16384 .bf16) (main_arg3 : FVec F S768x16384 .bf16) (main_arg4 : FVec F S16384x768 .bf16) : IVec S512x768 1 × IVec S768x16384 1 × IVec S768x16384 1 :=
  let main_v0 : FVec F S512x768 .bf16 := Host.absf main_arg0
  let main_cst : FVec F S_ .bf16 := constant S_ .bf16 0x7F80#16
  let main_v1 : FVec F S512x768 .bf16 := broadcastInDim S512x768 ![] bcast_S_S512x768 main_cst
  let main_v2 : IVec S512x768 1 := cmpf .olt main_v0 main_v1
  let main_v3 : FVec F S768x16384 .bf16 := Host.absf main_arg1
  let main_cst_0 : FVec F S_ .bf16 := constant S_ .bf16 0x7F80#16
  let main_v4 : FVec F S768x16384 .bf16 := broadcastInDim S768x16384 ![] bcast_S_S768x16384 main_cst_0
  let main_v5 : IVec S768x16384 1 := cmpf .olt main_v3 main_v4
  let main_v6 : FVec F S768x16384 .bf16 := Host.absf main_arg2
  let main_cst_1 : FVec F S_ .bf16 := constant S_ .bf16 0x7F80#16
  let main_v7 : FVec F S768x16384 .bf16 := broadcastInDim S768x16384 ![] bcast_S_S768x16384 main_cst_1
  let main_v8 : IVec S768x16384 1 := cmpf .olt main_v6 main_v7
  (main_v2, main_v5, main_v8)
-- ==== Kernel.lean ====
abbrev S512x768 : Shape := ⟨2, ![512, 768]⟩
abbrev S768x512 : Shape := ⟨2, ![768, 512]⟩
abbrev S47 : Shape := ⟨1, ![47]⟩
abbrev S_ : Shape := ⟨0, ![]⟩
abbrev S256x768 : Shape := ⟨2, ![256, 768]⟩
abbrev S256x512 : Shape := ⟨2, ![256, 512]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S16x768 : Shape := ⟨2, ![16, 768]⟩

abbrev nBuf : Space → Nat
  | .hbm => 6
  | .vmem => 10
  | .smem => 0
  | _ => 0

abbrev bufTy : (tb : Table) → Fin (tcTables nBuf tb) → BufTy
  | .hbm, ⟨0, _⟩ => ⟨S512x768, .bf16⟩
  | .hbm, ⟨1, _⟩ => ⟨S768x512, .bf16⟩
  | .hbm, ⟨2, _⟩ => ⟨S768x512, .bf16⟩
  | .hbm, ⟨3, _⟩ => ⟨S768x512, .bf16⟩
  | .hbm, ⟨4, _⟩ => ⟨S512x768, .bf16⟩
  | .hbm, ⟨5, _⟩ => ⟨S512x768, .f32⟩
  | .local _ .vmem, ⟨0, _⟩ => ⟨S512x768, .bf16⟩
  | .local _ .vmem, ⟨1, _⟩ => ⟨S768x512, .bf16⟩
  | .local _ .vmem, ⟨2, _⟩ => ⟨S512x768, .bf16⟩
  | .local _ .vmem, ⟨3, _⟩ => ⟨S768x512, .bf16⟩
  | .local _ .vmem, ⟨4, _⟩ => ⟨S768x512, .bf16⟩
  | .local _ .vmem, ⟨5, _⟩ => ⟨S512x768, .f32⟩
  | .local _ .vmem, ⟨6, _⟩ => ⟨S512x768, .f32⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | _, _ => ⟨S512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v8 : BitVec 32 := Scalar.xori v2 c1_i32_1
  let c1_i32_3 : BitVec 32 := 1#32
  let v9 : BitVec 32 := Scalar.muli v8 c1_i32_3
  let v10 : BitVec 32 := Scalar.addi c0_i32_4 v9
  v10.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v11 : BitVec 32 := Scalar.xori v2 c2_i32
  let c1_i32_6 : BitVec 32 := 1#32
  let v12 : BitVec 32 := Scalar.muli v11 c1_i32_6
  let v13 : BitVec 32 := Scalar.addi c0_i32_7 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_8 : BitVec 32 := 3#32
  let v14 : BitVec 32 := Scalar.xori v2 c3_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v17 : BitVec 32 := Scalar.xori v2 c4_i32
  let c1_i32_13 : BitVec 32 := 1#32
  let v18 : BitVec 32 := Scalar.muli v17 c1_i32_13
  let v19 : BitVec 32 := Scalar.addi c0_i32_14 v18
  v19.toNat
def k0_dev5 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.xori v2 c5_i32
  let c1_i32_16 : BitVec 32 := 1#32
  let v21 : BitVec 32 := Scalar.muli v20 c1_i32_16
  let v22 : BitVec 32 := Scalar.addi c0_i32_17 v21
  v22.toNat
def k0_dev6 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v23 : BitVec 32 := Scalar.xori v2 c6_i32
  let c1_i32_19 : BitVec 32 := 1#32
  let v24 : BitVec 32 := Scalar.muli v23 c1_i32_19
  let v25 : BitVec 32 := Scalar.addi c0_i32_20 v24
  v25.toNat
def k0_dev7 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v26 : BitVec 32 := Scalar.xori v2 c7_i32
  let c1_i32_22 : BitVec 32 := 1#32
  let v27 : BitVec 32 := Scalar.muli v26 c1_i32_22
  let v28 : BitVec 32 := Scalar.addi c0_i32_23 v27
  v28.toNat
def k0_dev8 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v29 : BitVec 32 := Scalar.xori v2 c16_i32
  let c1_i32_25 : BitVec 32 := 1#32
  let v30 : BitVec 32 := Scalar.muli v29 c1_i32_25
  let v31 : BitVec 32 := Scalar.addi c0_i32_26 v30
  v31.toNat
def k0_dev9 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v32 : BitVec 32 := Scalar.xori v2 c17_i32
  let c1_i32_28 : BitVec 32 := 1#32
  let v33 : BitVec 32 := Scalar.muli v32 c1_i32_28
  let v34 : BitVec 32 := Scalar.addi c0_i32_29 v33
  v34.toNat
def k0_dev10 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v35 : BitVec 32 := Scalar.xori v2 c18_i32
  let c1_i32_31 : BitVec 32 := 1#32
  let v36 : BitVec 32 := Scalar.muli v35 c1_i32_31
  let v37 : BitVec 32 := Scalar.addi c0_i32_32 v36
  v37.toNat
def k0_dev11 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v38 : BitVec 32 := Scalar.xori v2 c19_i32
  let c1_i32_34 : BitVec 32 := 1#32
  let v39 : BitVec 32 := Scalar.muli v38 c1_i32_34
  let v40 : BitVec 32 := Scalar.addi c0_i32_35 v39
  v40.toNat
def k0_dev12 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v41 : BitVec 32 := Scalar.xori v2 c20_i32
  let c1_i32_37 : BitVec 32 := 1#32
  let v42 : BitVec 32 := Scalar.muli v41 c1_i32_37
  let v43 : BitVec 32 := Scalar.addi c0_i32_38 v42
  v43.toNat
def k0_dev13 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.xori v2 c21_i32
  let c1_i32_40 : BitVec 32 := 1#32
  let v45 : BitVec 32 := Scalar.muli v44 c1_i32_40
  let v46 : BitVec 32 := Scalar.addi c0_i32_41 v45
  v46.toNat
def k0_dev14 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v47 : BitVec 32 := Scalar.xori v2 c22_i32
  let c1_i32_43 : BitVec 32 := 1#32
  let v48 : BitVec 32 := Scalar.muli v47 c1_i32_43
  let v49 : BitVec 32 := Scalar.addi c0_i32_44 v48
  v49.toNat
def k0_dev15 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v50 : BitVec 32 := Scalar.xori v2 c23_i32
  let c1_i32_46 : BitVec 32 := 1#32
  let v51 : BitVec 32 := Scalar.muli v50 c1_i32_46
  let v52 : BitVec 32 := Scalar.addi c0_i32_47 v51
  v52.toNat
def k0_dev16 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_48 : BitVec 32 := 8#32
  let v53 : BitVec 32 := Scalar.xori v2 c8_i32_48
  let c1_i32_50 : BitVec 32 := 1#32
  let v54 : BitVec 32 := Scalar.muli v53 c1_i32_50
  let v55 : BitVec 32 := Scalar.addi c0_i32_51 v54
  v55.toNat
def k0_mult1 (d0 : Dev nD) : BitVec 32 :=
  let c256_i32_60 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let v66 : BitVec 32 := Scalar.subi c256_i32_60 v6
  v66
def k0_off1 (d0 : Dev nD) : Fin 2 → Nat :=
  let c256_i32_60 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let v66 : BitVec 32 := Scalar.subi c256_i32_60 v6
  let v68 : BitVec 32 := v66
  let v69 : Index := Scalar.indexCast v68
  let c0_62 : Index := 0#32
  ![v69.toNat, 0]
def k0_mult2 (d0 : Dev nD) : BitVec 32 :=
  let c256_i32_60 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let v66 : BitVec 32 := Scalar.subi c256_i32_60 v6
  v66
def k0_dev17 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_61 : BitVec 32 := 8#32
  let v67 : BitVec 32 := Scalar.xori v2 c8_i32_61
  let c1_i32_97 : BitVec 32 := 1#32
  let v180 : BitVec 32 := Scalar.muli v67 c1_i32_97
  let v181 : BitVec 32 := Scalar.addi c0_i32_98 v180
  v181.toNat
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  v6
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let v188 : BitVec 32 := v6
  let v189 : Index := Scalar.indexCast v188
  let c0_103 : Index := 0#32
  ![v189.toNat, 0]
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  v6
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  v6
def k0_mult6 (d0 : Dev nD) : BitVec 32 :=
  let c256_i32_161 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c1_i32_159 : BitVec 32 := 1#32
  let v326 : BitVec 32 := Scalar.xori v321 c1_i32_159
  let c16_i32_160 : BitVec 32 := 16#32
  let v327 : BitVec 32 := Scalar.muli v326 c16_i32_160
  let v328 : BitVec 32 := Scalar.addi c256_i32_161 v327
  v328
def k0_mult7 (d0 : Dev nD) : BitVec 32 :=
  let c256_i32_163 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_162 : BitVec 32 := 16#32
  let v330 : BitVec 32 := Scalar.muli v321 c16_i32_162
  let v331 : BitVec 32 := Scalar.addi c256_i32_163 v330
  v331
def k0_off3 (d0 : Dev nD) : Fin 2 → Nat :=
  let c256_i32_163 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_162 : BitVec 32 := 16#32
  let v330 : BitVec 32 := Scalar.muli v321 c16_i32_162
  let v331 : BitVec 32 := Scalar.addi c256_i32_163 v330
  let v332 : BitVec 32 := v331
  let c0_i32_169 : BitVec 32 := 0#32
  ![v332.toNat, 0]
def k0_off4 (d0 : Dev nD) (c1_i32_159 : BitVec 32) : Fin 2 → Nat :=
  let c256_i32_161 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let v326 : BitVec 32 := Scalar.xori v321 c1_i32_159
  let c16_i32_160 : BitVec 32 := 16#32
  let v327 : BitVec 32 := Scalar.muli v326 c16_i32_160
  let v328 : BitVec 32 := Scalar.addi c256_i32_161 v327
  let v329 : BitVec 32 := v328
  let c0_i32_170 : BitVec 32 := 0#32
  ![v329.toNat, 0]
def k0_dev18 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_164 : BitVec 32 := 1#32
  let v333 : BitVec 32 := Scalar.xori v2 c1_i32_164
  let c1_i32_167 : BitVec 32 := 1#32
  let v334 : BitVec 32 := Scalar.muli v333 c1_i32_167
  let v335 : BitVec 32 := Scalar.addi c0_i32_168 v334
  v335.toNat
def k0_mult8 (d0 : Dev nD) : BitVec 32 :=
  let c256_i32_173 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c2_i32_171 : BitVec 32 := 2#32
  let v342 : BitVec 32 := Scalar.xori v321 c2_i32_171
  let c16_i32_172 : BitVec 32 := 16#32
  let v343 : BitVec 32 := Scalar.muli v342 c16_i32_172
  let v344 : BitVec 32 := Scalar.addi c256_i32_173 v343
  v344
def k0_mult9 (d0 : Dev nD) : BitVec 32 :=
  let c256_i32_175 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_174 : BitVec 32 := 16#32
  let v346 : BitVec 32 := Scalar.muli v321 c16_i32_174
  let v347 : BitVec 32 := Scalar.addi c256_i32_175 v346
  v347
def k0_dev19 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_176 : BitVec 32 := 2#32
  let v349 : BitVec 32 := Scalar.xori v2 c2_i32_176
  let c1_i32_179 : BitVec 32 := 1#32
  let v350 : BitVec 32 := Scalar.muli v349 c1_i32_179
  let v351 : BitVec 32 := Scalar.addi c0_i32_180 v350
  v351.toNat
def k0_mult10 (d0 : Dev nD) : BitVec 32 :=
  let c256_i32_185 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c3_i32_183 : BitVec 32 := 3#32
  let v358 : BitVec 32 := Scalar.xori v321 c3_i32_183
  let c16_i32_184 : BitVec 32 := 16#32
  let v359 : BitVec 32 := Scalar.muli v358 c16_i32_184
  let v360 : BitVec 32 := Scalar.addi c256_i32_185 v359
  v360
def k0_mult11 (d0 : Dev nD) : BitVec 32 :=
  let c256_i32_187 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_186 : BitVec 32 := 16#32
  let v362 : BitVec 32 := Scalar.muli v321 c16_i32_186
  let v363 : BitVec 32 := Scalar.addi c256_i32_187 v362
  v363
def k0_dev20 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_188 : BitVec 32 := 3#32
  let v365 : BitVec 32 := Scalar.xori v2 c3_i32_188
  let c1_i32_191 : BitVec 32 := 1#32
  let v366 : BitVec 32 := Scalar.muli v365 c1_i32_191
  let v367 : BitVec 32 := Scalar.addi c0_i32_192 v366
  v367.toNat
def k0_mult12 (d0 : Dev nD) : BitVec 32 :=
  let c256_i32_197 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c4_i32_195 : BitVec 32 := 4#32
  let v374 : BitVec 32 := Scalar.xori v321 c4_i32_195
  let c16_i32_196 : BitVec 32 := 16#32
  let v375 : BitVec 32 := Scalar.muli v374 c16_i32_196
  let v376 : BitVec 32 := Scalar.addi c256_i32_197 v375
  v376
def k0_mult13 (d0 : Dev nD) : BitVec 32 :=
  let c256_i32_199 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_198 : BitVec 32 := 16#32
  let v378 : BitVec 32 := Scalar.muli v321 c16_i32_198
  let v379 : BitVec 32 := Scalar.addi c256_i32_199 v378
  v379
def k0_dev21 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v381 : BitVec 32 := Scalar.xori v2 c4_i32_200
  let c1_i32_203 : BitVec 32 := 1#32
  let v382 : BitVec 32 := Scalar.muli v381 c1_i32_203
  let v383 : BitVec 32 := Scalar.addi c0_i32_204 v382
  v383.toNat
def k0_mult14 (d0 : Dev nD) : BitVec 32 :=
  let c256_i32_209 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c5_i32_207 : BitVec 32 := 5#32
  let v390 : BitVec 32 := Scalar.xori v321 c5_i32_207
  let c16_i32_208 : BitVec 32 := 16#32
  let v391 : BitVec 32 := Scalar.muli v390 c16_i32_208
  let v392 : BitVec 32 := Scalar.addi c256_i32_209 v391
  v392
def k0_mult15 (d0 : Dev nD) : BitVec 32 :=
  let c256_i32_211 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_210 : BitVec 32 := 16#32
  let v394 : BitVec 32 := Scalar.muli v321 c16_i32_210
  let v395 : BitVec 32 := Scalar.addi c256_i32_211 v394
  v395
def k0_dev22 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_212 : BitVec 32 := 5#32
  let v397 : BitVec 32 := Scalar.xori v2 c5_i32_212
  let c1_i32_215 : BitVec 32 := 1#32
  let v398 : BitVec 32 := Scalar.muli v397 c1_i32_215
  let v399 : BitVec 32 := Scalar.addi c0_i32_216 v398
  v399.toNat
def k0_mult16 (d0 : Dev nD) : BitVec 32 :=
  let c256_i32_221 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c6_i32_219 : BitVec 32 := 6#32
  let v406 : BitVec 32 := Scalar.xori v321 c6_i32_219
  let c16_i32_220 : BitVec 32 := 16#32
  let v407 : BitVec 32 := Scalar.muli v406 c16_i32_220
  let v408 : BitVec 32 := Scalar.addi c256_i32_221 v407
  v408
def k0_mult17 (d0 : Dev nD) : BitVec 32 :=
  let c256_i32_223 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_222 : BitVec 32 := 16#32
  let v410 : BitVec 32 := Scalar.muli v321 c16_i32_222
  let v411 : BitVec 32 := Scalar.addi c256_i32_223 v410
  v411
def k0_dev23 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_224 : BitVec 32 := 6#32
  let v413 : BitVec 32 := Scalar.xori v2 c6_i32_224
  let c1_i32_227 : BitVec 32 := 1#32
  let v414 : BitVec 32 := Scalar.muli v413 c1_i32_227
  let v415 : BitVec 32 := Scalar.addi c0_i32_228 v414
  v415.toNat
def k0_mult18 (d0 : Dev nD) : BitVec 32 :=
  let c256_i32_233 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c7_i32_231 : BitVec 32 := 7#32
  let v422 : BitVec 32 := Scalar.xori v321 c7_i32_231
  let c16_i32_232 : BitVec 32 := 16#32
  let v423 : BitVec 32 := Scalar.muli v422 c16_i32_232
  let v424 : BitVec 32 := Scalar.addi c256_i32_233 v423
  v424
def k0_mult19 (d0 : Dev nD) : BitVec 32 :=
  let c256_i32_235 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_234 : BitVec 32 := 16#32
  let v426 : BitVec 32 := Scalar.muli v321 c16_i32_234
  let v427 : BitVec 32 := Scalar.addi c256_i32_235 v426
  v427
def k0_dev24 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_236 : BitVec 32 := 7#32
  let v429 : BitVec 32 := Scalar.xori v2 c7_i32_236
  let c1_i32_239 : BitVec 32 := 1#32
  let v430 : BitVec 32 := Scalar.muli v429 c1_i32_239
  let v431 : BitVec 32 := Scalar.addi c0_i32_240 v430
  v431.toNat
def k0_mult20 (d0 : Dev nD) : BitVec 32 :=
  let c256_i32_245 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c8_i32_243 : BitVec 32 := 8#32
  let v438 : BitVec 32 := Scalar.xori v321 c8_i32_243
  let c16_i32_244 : BitVec 32 := 16#32
  let v439 : BitVec 32 := Scalar.muli v438 c16_i32_244
  let v440 : BitVec 32 := Scalar.addi c256_i32_245 v439
  v440
def k0_mult21 (d0 : Dev nD) : BitVec 32 :=
  let c256_i32_247 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_246 : BitVec 32 := 16#32
  let v442 : BitVec 32 := Scalar.muli v321 c16_i32_246
  let v443 : BitVec 32 := Scalar.addi c256_i32_247 v442
  v443
def k0_dev25 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_248 : BitVec 32 := 16#32
  let v445 : BitVec 32 := Scalar.xori v2 c16_i32_248
  let c1_i32_251 : BitVec 32 := 1#32
  let v446 : BitVec 32 := Scalar.muli v445 c1_i32_251
  let v447 : BitVec 32 := Scalar.addi c0_i32_252 v446
  v447.toNat
def k0_mult22 (d0 : Dev nD) : BitVec 32 :=
  let c256_i32_256 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c9_i32 : BitVec 32 := 9#32
  let v454 : BitVec 32 := Scalar.xori v321 c9_i32
  let c16_i32_255 : BitVec 32 := 16#32
  let v455 : BitVec 32 := Scalar.muli v454 c16_i32_255
  let v456 : BitVec 32 := Scalar.addi c256_i32_256 v455
  v456
def k0_mult23 (d0 : Dev nD) : BitVec 32 :=
  let c256_i32_258 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_257 : BitVec 32 := 16#32
  let v458 : BitVec 32 := Scalar.muli v321 c16_i32_257
  let v459 : BitVec 32 := Scalar.addi c256_i32_258 v458
  v459
def k0_dev26 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_259 : BitVec 32 := 17#32
  let v461 : BitVec 32 := Scalar.xori v2 c17_i32_259
  let c1_i32_262 : BitVec 32 := 1#32
  let v462 : BitVec 32 := Scalar.muli v461 c1_i32_262
  let v463 : BitVec 32 := Scalar.addi c0_i32_263 v462
  v463.toNat
def k0_mult24 (d0 : Dev nD) : BitVec 32 :=
  let c256_i32_267 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c10_i32 : BitVec 32 := 10#32
  let v470 : BitVec 32 := Scalar.xori v321 c10_i32
  let c16_i32_266 : BitVec 32 := 16#32
  let v471 : BitVec 32 := Scalar.muli v470 c16_i32_266
  let v472 : BitVec 32 := Scalar.addi c256_i32_267 v471
  v472
def k0_mult25 (d0 : Dev nD) : BitVec 32 :=
  let c256_i32_269 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_268 : BitVec 32 := 16#32
  let v474 : BitVec 32 := Scalar.muli v321 c16_i32_268
  let v475 : BitVec 32 := Scalar.addi c256_i32_269 v474
  v475
def k0_dev27 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_270 : BitVec 32 := 18#32
  let v477 : BitVec 32 := Scalar.xori v2 c18_i32_270
  let c1_i32_273 : BitVec 32 := 1#32
  let v478 : BitVec 32 := Scalar.muli v477 c1_i32_273
  let v479 : BitVec 32 := Scalar.addi c0_i32_274 v478
  v479.toNat
def k0_mult26 (d0 : Dev nD) : BitVec 32 :=
  let c256_i32_278 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c11_i32 : BitVec 32 := 11#32
  let v486 : BitVec 32 := Scalar.xori v321 c11_i32
  let c16_i32_277 : BitVec 32 := 16#32
  let v487 : BitVec 32 := Scalar.muli v486 c16_i32_277
  let v488 : BitVec 32 := Scalar.addi c256_i32_278 v487
  v488
def k0_mult27 (d0 : Dev nD) : BitVec 32 :=
  let c256_i32_280 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_279 : BitVec 32 := 16#32
  let v490 : BitVec 32 := Scalar.muli v321 c16_i32_279
  let v491 : BitVec 32 := Scalar.addi c256_i32_280 v490
  v491
def k0_dev28 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_281 : BitVec 32 := 19#32
  let v493 : BitVec 32 := Scalar.xori v2 c19_i32_281
  let c1_i32_284 : BitVec 32 := 1#32
  let v494 : BitVec 32 := Scalar.muli v493 c1_i32_284
  let v495 : BitVec 32 := Scalar.addi c0_i32_285 v494
  v495.toNat
def k0_mult28 (d0 : Dev nD) : BitVec 32 :=
  let c256_i32_289 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c12_i32 : BitVec 32 := 12#32
  let v502 : BitVec 32 := Scalar.xori v321 c12_i32
  let c16_i32_288 : BitVec 32 := 16#32
  let v503 : BitVec 32 := Scalar.muli v502 c16_i32_288
  let v504 : BitVec 32 := Scalar.addi c256_i32_289 v503
  v504
def k0_mult29 (d0 : Dev nD) : BitVec 32 :=
  let c256_i32_291 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_290 : BitVec 32 := 16#32
  let v506 : BitVec 32 := Scalar.muli v321 c16_i32_290
  let v507 : BitVec 32 := Scalar.addi c256_i32_291 v506
  v507
def k0_dev29 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_292 : BitVec 32 := 20#32
  let v509 : BitVec 32 := Scalar.xori v2 c20_i32_292
  let c1_i32_295 : BitVec 32 := 1#32
  let v510 : BitVec 32 := Scalar.muli v509 c1_i32_295
  let v511 : BitVec 32 := Scalar.addi c0_i32_296 v510
  v511.toNat
def k0_mult30 (d0 : Dev nD) : BitVec 32 :=
  let c256_i32_300 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c13_i32 : BitVec 32 := 13#32
  let v518 : BitVec 32 := Scalar.xori v321 c13_i32
  let c16_i32_299 : BitVec 32 := 16#32
  let v519 : BitVec 32 := Scalar.muli v518 c16_i32_299
  let v520 : BitVec 32 := Scalar.addi c256_i32_300 v519
  v520
def k0_mult31 (d0 : Dev nD) : BitVec 32 :=
  let c256_i32_302 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_301 : BitVec 32 := 16#32
  let v522 : BitVec 32 := Scalar.muli v321 c16_i32_301
  let v523 : BitVec 32 := Scalar.addi c256_i32_302 v522
  v523
def k0_dev30 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_303 : BitVec 32 := 21#32
  let v525 : BitVec 32 := Scalar.xori v2 c21_i32_303
  let c1_i32_306 : BitVec 32 := 1#32
  let v526 : BitVec 32 := Scalar.muli v525 c1_i32_306
  let v527 : BitVec 32 := Scalar.addi c0_i32_307 v526
  v527.toNat
def k0_mult32 (d0 : Dev nD) : BitVec 32 :=
  let c256_i32_311 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c14_i32 : BitVec 32 := 14#32
  let v534 : BitVec 32 := Scalar.xori v321 c14_i32
  let c16_i32_310 : BitVec 32 := 16#32
  let v535 : BitVec 32 := Scalar.muli v534 c16_i32_310
  let v536 : BitVec 32 := Scalar.addi c256_i32_311 v535
  v536
def k0_mult33 (d0 : Dev nD) : BitVec 32 :=
  let c256_i32_313 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_312 : BitVec 32 := 16#32
  let v538 : BitVec 32 := Scalar.muli v321 c16_i32_312
  let v539 : BitVec 32 := Scalar.addi c256_i32_313 v538
  v539
def k0_dev31 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_314 : BitVec 32 := 22#32
  let v541 : BitVec 32 := Scalar.xori v2 c22_i32_314
  let c1_i32_317 : BitVec 32 := 1#32
  let v542 : BitVec 32 := Scalar.muli v541 c1_i32_317
  let v543 : BitVec 32 := Scalar.addi c0_i32_318 v542
  v543.toNat
def k0_mult34 (d0 : Dev nD) : BitVec 32 :=
  let c256_i32_322 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c15_i32 : BitVec 32 := 15#32
  let v550 : BitVec 32 := Scalar.xori v321 c15_i32
  let c16_i32_321 : BitVec 32 := 16#32
  let v551 : BitVec 32 := Scalar.muli v550 c16_i32_321
  let v552 : BitVec 32 := Scalar.addi c256_i32_322 v551
  v552
def k0_mult35 (d0 : Dev nD) : BitVec 32 :=
  let c256_i32_324 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_323 : BitVec 32 := 16#32
  let v554 : BitVec 32 := Scalar.muli v321 c16_i32_323
  let v555 : BitVec 32 := Scalar.addi c256_i32_324 v554
  v555
def k0_dev32 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_325 : BitVec 32 := 23#32
  let v557 : BitVec 32 := Scalar.xori v2 c23_i32_325
  let c1_i32_328 : BitVec 32 := 1#32
  let v558 : BitVec 32 := Scalar.muli v557 c1_i32_328
  let v559 : BitVec 32 := Scalar.addi c0_i32_329 v558
  v559.toNat
def k0_mult36 (d0 : Dev nD) : BitVec 32 :=
  let c256_i32_500 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c1_i32_498 : BitVec 32 := 1#32
  let v718 : BitVec 32 := Scalar.xori v321 c1_i32_498
  let c16_i32_499 : BitVec 32 := 16#32
  let v719 : BitVec 32 := Scalar.muli v718 c16_i32_499
  let v720 : BitVec 32 := Scalar.addi c256_i32_500 v719
  v720
def k0_off5 (d0 : Dev nD) (c1_i32_498 : BitVec 32) : Fin 2 → Nat :=
  let c256_i32_500 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let v718 : BitVec 32 := Scalar.xori v321 c1_i32_498
  let c16_i32_499 : BitVec 32 := 16#32
  let v719 : BitVec 32 := Scalar.muli v718 c16_i32_499
  let v720 : BitVec 32 := Scalar.addi c256_i32_500 v719
  let v721 : BitVec 32 := v720
  let v722 : Index := Scalar.indexCast v721
  let c0_501 : Index := 0#32
  ![v722.toNat, 0]
def k0_mult37 (d0 : Dev nD) : BitVec 32 :=
  let c256_i32_505 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c2_i32_503 : BitVec 32 := 2#32
  let v727 : BitVec 32 := Scalar.xori v321 c2_i32_503
  let c16_i32_504 : BitVec 32 := 16#32
  let v728 : BitVec 32 := Scalar.muli v727 c16_i32_504
  let v729 : BitVec 32 := Scalar.addi c256_i32_505 v728
  v729
def k0_mult38 (d0 : Dev nD) : BitVec 32 :=
  let c256_i32_509 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c3_i32_507 : BitVec 32 := 3#32
  let v735 : BitVec 32 := Scalar.xori v321 c3_i32_507
  let c16_i32_508 : BitVec 32 := 16#32
  let v736 : BitVec 32 := Scalar.muli v735 c16_i32_508
  let v737 : BitVec 32 := Scalar.addi c256_i32_509 v736
  v737
def k0_mult39 (d0 : Dev nD) : BitVec 32 :=
  let c256_i32_513 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c4_i32_511 : BitVec 32 := 4#32
  let v743 : BitVec 32 := Scalar.xori v321 c4_i32_511
  let c16_i32_512 : BitVec 32 := 16#32
  let v744 : BitVec 32 := Scalar.muli v743 c16_i32_512
  let v745 : BitVec 32 := Scalar.addi c256_i32_513 v744
  v745
def k0_mult40 (d0 : Dev nD) : BitVec 32 :=
  let c256_i32_517 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c5_i32_515 : BitVec 32 := 5#32
  let v751 : BitVec 32 := Scalar.xori v321 c5_i32_515
  let c16_i32_516 : BitVec 32 := 16#32
  let v752 : BitVec 32 := Scalar.muli v751 c16_i32_516
  let v753 : BitVec 32 := Scalar.addi c256_i32_517 v752
  v753
def k0_mult41 (d0 : Dev nD) : BitVec 32 :=
  let c256_i32_521 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c6_i32_519 : BitVec 32 := 6#32
  let v759 : BitVec 32 := Scalar.xori v321 c6_i32_519
  let c16_i32_520 : BitVec 32 := 16#32
  let v760 : BitVec 32 := Scalar.muli v759 c16_i32_520
  let v761 : BitVec 32 := Scalar.addi c256_i32_521 v760
  v761
def k0_mult42 (d0 : Dev nD) : BitVec 32 :=
  let c256_i32_525 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c7_i32_523 : BitVec 32 := 7#32
  let v767 : BitVec 32 := Scalar.xori v321 c7_i32_523
  let c16_i32_524 : BitVec 32 := 16#32
  let v768 : BitVec 32 := Scalar.muli v767 c16_i32_524
  let v769 : BitVec 32 := Scalar.addi c256_i32_525 v768
  v769
def k0_mult43 (d0 : Dev nD) : BitVec 32 :=
  let c256_i32_529 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c8_i32_527 : BitVec 32 := 8#32
  let v775 : BitVec 32 := Scalar.xori v321 c8_i32_527
  let c16_i32_528 : BitVec 32 := 16#32
  let v776 : BitVec 32 := Scalar.muli v775 c16_i32_528
  let v777 : BitVec 32 := Scalar.addi c256_i32_529 v776
  v777
def k0_mult44 (d0 : Dev nD) : BitVec 32 :=
  let c256_i32_533 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c9_i32_531 : BitVec 32 := 9#32
  let v783 : BitVec 32 := Scalar.xori v321 c9_i32_531
  let c16_i32_532 : BitVec 32 := 16#32
  let v784 : BitVec 32 := Scalar.muli v783 c16_i32_532
  let v785 : BitVec 32 := Scalar.addi c256_i32_533 v784
  v785
def k0_mult45 (d0 : Dev nD) : BitVec 32 :=
  let c256_i32_537 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c10_i32_535 : BitVec 32 := 10#32
  let v791 : BitVec 32 := Scalar.xori v321 c10_i32_535
  let c16_i32_536 : BitVec 32 := 16#32
  let v792 : BitVec 32 := Scalar.muli v791 c16_i32_536
  let v793 : BitVec 32 := Scalar.addi c256_i32_537 v792
  v793
def k0_mult46 (d0 : Dev nD) : BitVec 32 :=
  let c256_i32_541 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c11_i32_539 : BitVec 32 := 11#32
  let v799 : BitVec 32 := Scalar.xori v321 c11_i32_539
  let c16_i32_540 : BitVec 32 := 16#32
  let v800 : BitVec 32 := Scalar.muli v799 c16_i32_540
  let v801 : BitVec 32 := Scalar.addi c256_i32_541 v800
  v801
def k0_mult47 (d0 : Dev nD) : BitVec 32 :=
  let c256_i32_545 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c12_i32_543 : BitVec 32 := 12#32
  let v807 : BitVec 32 := Scalar.xori v321 c12_i32_543
  let c16_i32_544 : BitVec 32 := 16#32
  let v808 : BitVec 32 := Scalar.muli v807 c16_i32_544
  let v809 : BitVec 32 := Scalar.addi c256_i32_545 v808
  v809
def k0_mult48 (d0 : Dev nD) : BitVec 32 :=
  let c256_i32_549 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c13_i32_547 : BitVec 32 := 13#32
  let v815 : BitVec 32 := Scalar.xori v321 c13_i32_547
  let c16_i32_548 : BitVec 32 := 16#32
  let v816 : BitVec 32 := Scalar.muli v815 c16_i32_548
  let v817 : BitVec 32 := Scalar.addi c256_i32_549 v816
  v817
def k0_mult49 (d0 : Dev nD) : BitVec 32 :=
  let c256_i32_553 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c14_i32_551 : BitVec 32 := 14#32
  let v823 : BitVec 32 := Scalar.xori v321 c14_i32_551
  let c16_i32_552 : BitVec 32 := 16#32
  let v824 : BitVec 32 := Scalar.muli v823 c16_i32_552
  let v825 : BitVec 32 := Scalar.addi c256_i32_553 v824
  v825
def k0_mult50 (d0 : Dev nD) : BitVec 32 :=
  let c256_i32_557 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c15_i32_555 : BitVec 32 := 15#32
  let v831 : BitVec 32 := Scalar.xori v321 c15_i32_555
  let c16_i32_556 : BitVec 32 := 16#32
  let v832 : BitVec 32 := Scalar.muli v831 c16_i32_556
  let v833 : BitVec 32 := Scalar.addi c256_i32_557 v832
  v833
def k0_mult51 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  let v839 : BitVec 32 := v717
  let v840 : Index := Scalar.indexCast v839
  let c0_559 : Index := 0#32
  ![v840.toNat, 0]
def k0_mult52 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult53 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult54 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult55 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  let v853 : BitVec 32 := v717
  let c0_i32_566 : BitVec 32 := 0#32
  ![v853.toNat, 0]
def k0_dev33 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_562 : BitVec 32 := 8#32
  let v854 : BitVec 32 := Scalar.xori v2 c8_i32_562
  let c1_i32_564 : BitVec 32 := 1#32
  let v855 : BitVec 32 := Scalar.muli v854 c1_i32_564
  let v856 : BitVec 32 := Scalar.addi c0_i32_565 v855
  v856.toNat
def k0_mult56 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult57 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev34 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_568 : BitVec 32 := 1#32
  let v865 : BitVec 32 := Scalar.xori v2 c1_i32_568
  let c1_i32_571 : BitVec 32 := 1#32
  let v866 : BitVec 32 := Scalar.muli v865 c1_i32_571
  let v867 : BitVec 32 := Scalar.addi c0_i32_572 v866
  v867.toNat
def k0_mult58 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult59 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev35 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_575 : BitVec 32 := 2#32
  let v876 : BitVec 32 := Scalar.xori v2 c2_i32_575
  let c1_i32_578 : BitVec 32 := 1#32
  let v877 : BitVec 32 := Scalar.muli v876 c1_i32_578
  let v878 : BitVec 32 := Scalar.addi c0_i32_579 v877
  v878.toNat
def k0_mult60 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult61 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev36 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_582 : BitVec 32 := 3#32
  let v887 : BitVec 32 := Scalar.xori v2 c3_i32_582
  let c1_i32_585 : BitVec 32 := 1#32
  let v888 : BitVec 32 := Scalar.muli v887 c1_i32_585
  let v889 : BitVec 32 := Scalar.addi c0_i32_586 v888
  v889.toNat
def k0_mult62 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult63 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev37 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_589 : BitVec 32 := 4#32
  let v898 : BitVec 32 := Scalar.xori v2 c4_i32_589
  let c1_i32_592 : BitVec 32 := 1#32
  let v899 : BitVec 32 := Scalar.muli v898 c1_i32_592
  let v900 : BitVec 32 := Scalar.addi c0_i32_593 v899
  v900.toNat
def k0_mult64 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult65 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev38 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_596 : BitVec 32 := 5#32
  let v909 : BitVec 32 := Scalar.xori v2 c5_i32_596
  let c1_i32_599 : BitVec 32 := 1#32
  let v910 : BitVec 32 := Scalar.muli v909 c1_i32_599
  let v911 : BitVec 32 := Scalar.addi c0_i32_600 v910
  v911.toNat
def k0_mult66 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult67 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev39 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_603 : BitVec 32 := 6#32
  let v920 : BitVec 32 := Scalar.xori v2 c6_i32_603
  let c1_i32_606 : BitVec 32 := 1#32
  let v921 : BitVec 32 := Scalar.muli v920 c1_i32_606
  let v922 : BitVec 32 := Scalar.addi c0_i32_607 v921
  v922.toNat
def k0_mult68 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult69 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev40 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_610 : BitVec 32 := 7#32
  let v931 : BitVec 32 := Scalar.xori v2 c7_i32_610
  let c1_i32_613 : BitVec 32 := 1#32
  let v932 : BitVec 32 := Scalar.muli v931 c1_i32_613
  let v933 : BitVec 32 := Scalar.addi c0_i32_614 v932
  v933.toNat
def k0_mult70 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult71 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev41 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_617 : BitVec 32 := 16#32
  let v942 : BitVec 32 := Scalar.xori v2 c16_i32_617
  let c1_i32_620 : BitVec 32 := 1#32
  let v943 : BitVec 32 := Scalar.muli v942 c1_i32_620
  let v944 : BitVec 32 := Scalar.addi c0_i32_621 v943
  v944.toNat
def k0_mult72 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult73 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev42 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_624 : BitVec 32 := 17#32
  let v953 : BitVec 32 := Scalar.xori v2 c17_i32_624
  let c1_i32_626 : BitVec 32 := 1#32
  let v954 : BitVec 32 := Scalar.muli v953 c1_i32_626
  let v955 : BitVec 32 := Scalar.addi c0_i32_627 v954
  v955.toNat
def k0_mult74 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult75 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev43 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_630 : BitVec 32 := 18#32
  let v964 : BitVec 32 := Scalar.xori v2 c18_i32_630
  let c1_i32_632 : BitVec 32 := 1#32
  let v965 : BitVec 32 := Scalar.muli v964 c1_i32_632
  let v966 : BitVec 32 := Scalar.addi c0_i32_633 v965
  v966.toNat
def k0_mult76 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult77 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev44 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_636 : BitVec 32 := 19#32
  let v975 : BitVec 32 := Scalar.xori v2 c19_i32_636
  let c1_i32_638 : BitVec 32 := 1#32
  let v976 : BitVec 32 := Scalar.muli v975 c1_i32_638
  let v977 : BitVec 32 := Scalar.addi c0_i32_639 v976
  v977.toNat
def k0_mult78 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult79 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev45 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_642 : BitVec 32 := 20#32
  let v986 : BitVec 32 := Scalar.xori v2 c20_i32_642
  let c1_i32_644 : BitVec 32 := 1#32
  let v987 : BitVec 32 := Scalar.muli v986 c1_i32_644
  let v988 : BitVec 32 := Scalar.addi c0_i32_645 v987
  v988.toNat
def k0_mult80 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult81 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev46 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_648 : BitVec 32 := 21#32
  let v997 : BitVec 32 := Scalar.xori v2 c21_i32_648
  let c1_i32_650 : BitVec 32 := 1#32
  let v998 : BitVec 32 := Scalar.muli v997 c1_i32_650
  let v999 : BitVec 32 := Scalar.addi c0_i32_651 v998
  v999.toNat
def k0_mult82 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult83 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev47 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_654 : BitVec 32 := 22#32
  let v1008 : BitVec 32 := Scalar.xori v2 c22_i32_654
  let c1_i32_656 : BitVec 32 := 1#32
  let v1009 : BitVec 32 := Scalar.muli v1008 c1_i32_656
  let v1010 : BitVec 32 := Scalar.addi c0_i32_657 v1009
  v1010.toNat
def k0_mult84 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_mult85 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c16_i32_497 : BitVec 32 := 16#32
  let v716 : BitVec 32 := Scalar.muli v321 c16_i32_497
  let v717 : BitVec 32 := Scalar.addi v6 v716
  v717
def k0_dev48 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_660 : BitVec 32 := 23#32
  let v1019 : BitVec 32 := Scalar.xori v2 c23_i32_660
  let c1_i32_662 : BitVec 32 := 1#32
  let v1020 : BitVec 32 := Scalar.muli v1019 c1_i32_662
  let v1021 : BitVec 32 := Scalar.addi c0_i32_663 v1020
  v1021.toNat
def k0_mult86 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c1_i32_677 : BitVec 32 := 1#32
  let v1038 : BitVec 32 := Scalar.xori v321 c1_i32_677
  let c16_i32_678 : BitVec 32 := 16#32
  let v1039 : BitVec 32 := Scalar.muli v1038 c16_i32_678
  let v1040 : BitVec 32 := Scalar.addi v6 v1039
  v1040
def k0_mult87 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c1_i32_677 : BitVec 32 := 1#32
  let v1038 : BitVec 32 := Scalar.xori v321 c1_i32_677
  let c16_i32_678 : BitVec 32 := 16#32
  let v1039 : BitVec 32 := Scalar.muli v1038 c16_i32_678
  let v1040 : BitVec 32 := Scalar.addi v6 v1039
  v1040
def k0_off8 (d0 : Dev nD) (c1_i32_677 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let v1038 : BitVec 32 := Scalar.xori v321 c1_i32_677
  let c16_i32_678 : BitVec 32 := 16#32
  let v1039 : BitVec 32 := Scalar.muli v1038 c16_i32_678
  let v1040 : BitVec 32 := Scalar.addi v6 v1039
  let v1042 : BitVec 32 := v1040
  let c0_i32_684 : BitVec 32 := 0#32
  ![v1042.toNat, 0]
def k0_dev49 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_679 : BitVec 32 := 8#32
  let v1043 : BitVec 32 := Scalar.xori v2 c8_i32_679
  let c1_i32_682 : BitVec 32 := 1#32
  let v1044 : BitVec 32 := Scalar.muli v1043 c1_i32_682
  let v1045 : BitVec 32 := Scalar.addi c0_i32_683 v1044
  v1045.toNat
def k0_mult88 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c2_i32_697 : BitVec 32 := 2#32
  let v1062 : BitVec 32 := Scalar.xori v321 c2_i32_697
  let c16_i32_698 : BitVec 32 := 16#32
  let v1063 : BitVec 32 := Scalar.muli v1062 c16_i32_698
  let v1064 : BitVec 32 := Scalar.addi v6 v1063
  v1064
def k0_mult89 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c2_i32_697 : BitVec 32 := 2#32
  let v1062 : BitVec 32 := Scalar.xori v321 c2_i32_697
  let c16_i32_698 : BitVec 32 := 16#32
  let v1063 : BitVec 32 := Scalar.muli v1062 c16_i32_698
  let v1064 : BitVec 32 := Scalar.addi v6 v1063
  v1064
def k0_dev50 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_699 : BitVec 32 := 8#32
  let v1067 : BitVec 32 := Scalar.xori v2 c8_i32_699
  let c1_i32_701 : BitVec 32 := 1#32
  let v1068 : BitVec 32 := Scalar.muli v1067 c1_i32_701
  let v1069 : BitVec 32 := Scalar.addi c0_i32_702 v1068
  v1069.toNat
def k0_mult90 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c3_i32_716 : BitVec 32 := 3#32
  let v1086 : BitVec 32 := Scalar.xori v321 c3_i32_716
  let c16_i32_717 : BitVec 32 := 16#32
  let v1087 : BitVec 32 := Scalar.muli v1086 c16_i32_717
  let v1088 : BitVec 32 := Scalar.addi v6 v1087
  v1088
def k0_mult91 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c3_i32_716 : BitVec 32 := 3#32
  let v1086 : BitVec 32 := Scalar.xori v321 c3_i32_716
  let c16_i32_717 : BitVec 32 := 16#32
  let v1087 : BitVec 32 := Scalar.muli v1086 c16_i32_717
  let v1088 : BitVec 32 := Scalar.addi v6 v1087
  v1088
def k0_dev51 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_718 : BitVec 32 := 8#32
  let v1091 : BitVec 32 := Scalar.xori v2 c8_i32_718
  let c1_i32_720 : BitVec 32 := 1#32
  let v1092 : BitVec 32 := Scalar.muli v1091 c1_i32_720
  let v1093 : BitVec 32 := Scalar.addi c0_i32_721 v1092
  v1093.toNat
def k0_mult92 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c4_i32_735 : BitVec 32 := 4#32
  let v1110 : BitVec 32 := Scalar.xori v321 c4_i32_735
  let c16_i32_736 : BitVec 32 := 16#32
  let v1111 : BitVec 32 := Scalar.muli v1110 c16_i32_736
  let v1112 : BitVec 32 := Scalar.addi v6 v1111
  v1112
def k0_mult93 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c4_i32_735 : BitVec 32 := 4#32
  let v1110 : BitVec 32 := Scalar.xori v321 c4_i32_735
  let c16_i32_736 : BitVec 32 := 16#32
  let v1111 : BitVec 32 := Scalar.muli v1110 c16_i32_736
  let v1112 : BitVec 32 := Scalar.addi v6 v1111
  v1112
def k0_dev52 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_737 : BitVec 32 := 8#32
  let v1115 : BitVec 32 := Scalar.xori v2 c8_i32_737
  let c1_i32_739 : BitVec 32 := 1#32
  let v1116 : BitVec 32 := Scalar.muli v1115 c1_i32_739
  let v1117 : BitVec 32 := Scalar.addi c0_i32_740 v1116
  v1117.toNat
def k0_mult94 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c5_i32_754 : BitVec 32 := 5#32
  let v1134 : BitVec 32 := Scalar.xori v321 c5_i32_754
  let c16_i32_755 : BitVec 32 := 16#32
  let v1135 : BitVec 32 := Scalar.muli v1134 c16_i32_755
  let v1136 : BitVec 32 := Scalar.addi v6 v1135
  v1136
def k0_mult95 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c5_i32_754 : BitVec 32 := 5#32
  let v1134 : BitVec 32 := Scalar.xori v321 c5_i32_754
  let c16_i32_755 : BitVec 32 := 16#32
  let v1135 : BitVec 32 := Scalar.muli v1134 c16_i32_755
  let v1136 : BitVec 32 := Scalar.addi v6 v1135
  v1136
def k0_dev53 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_756 : BitVec 32 := 8#32
  let v1139 : BitVec 32 := Scalar.xori v2 c8_i32_756
  let c1_i32_758 : BitVec 32 := 1#32
  let v1140 : BitVec 32 := Scalar.muli v1139 c1_i32_758
  let v1141 : BitVec 32 := Scalar.addi c0_i32_759 v1140
  v1141.toNat
def k0_mult96 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c6_i32_773 : BitVec 32 := 6#32
  let v1158 : BitVec 32 := Scalar.xori v321 c6_i32_773
  let c16_i32_774 : BitVec 32 := 16#32
  let v1159 : BitVec 32 := Scalar.muli v1158 c16_i32_774
  let v1160 : BitVec 32 := Scalar.addi v6 v1159
  v1160
def k0_mult97 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c6_i32_773 : BitVec 32 := 6#32
  let v1158 : BitVec 32 := Scalar.xori v321 c6_i32_773
  let c16_i32_774 : BitVec 32 := 16#32
  let v1159 : BitVec 32 := Scalar.muli v1158 c16_i32_774
  let v1160 : BitVec 32 := Scalar.addi v6 v1159
  v1160
def k0_dev54 (d0 : Dev nD) : Nat :=
  let c0_i32_778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_775 : BitVec 32 := 8#32
  let v1163 : BitVec 32 := Scalar.xori v2 c8_i32_775
  let c1_i32_777 : BitVec 32 := 1#32
  let v1164 : BitVec 32 := Scalar.muli v1163 c1_i32_777
  let v1165 : BitVec 32 := Scalar.addi c0_i32_778 v1164
  v1165.toNat
def k0_mult98 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c7_i32_792 : BitVec 32 := 7#32
  let v1182 : BitVec 32 := Scalar.xori v321 c7_i32_792
  let c16_i32_793 : BitVec 32 := 16#32
  let v1183 : BitVec 32 := Scalar.muli v1182 c16_i32_793
  let v1184 : BitVec 32 := Scalar.addi v6 v1183
  v1184
def k0_mult99 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c7_i32_792 : BitVec 32 := 7#32
  let v1182 : BitVec 32 := Scalar.xori v321 c7_i32_792
  let c16_i32_793 : BitVec 32 := 16#32
  let v1183 : BitVec 32 := Scalar.muli v1182 c16_i32_793
  let v1184 : BitVec 32 := Scalar.addi v6 v1183
  v1184
def k0_dev55 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_794 : BitVec 32 := 8#32
  let v1187 : BitVec 32 := Scalar.xori v2 c8_i32_794
  let c1_i32_796 : BitVec 32 := 1#32
  let v1188 : BitVec 32 := Scalar.muli v1187 c1_i32_796
  let v1189 : BitVec 32 := Scalar.addi c0_i32_797 v1188
  v1189.toNat
def k0_mult100 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c8_i32_811 : BitVec 32 := 8#32
  let v1206 : BitVec 32 := Scalar.xori v321 c8_i32_811
  let c16_i32_812 : BitVec 32 := 16#32
  let v1207 : BitVec 32 := Scalar.muli v1206 c16_i32_812
  let v1208 : BitVec 32 := Scalar.addi v6 v1207
  v1208
def k0_mult101 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c8_i32_811 : BitVec 32 := 8#32
  let v1206 : BitVec 32 := Scalar.xori v321 c8_i32_811
  let c16_i32_812 : BitVec 32 := 16#32
  let v1207 : BitVec 32 := Scalar.muli v1206 c16_i32_812
  let v1208 : BitVec 32 := Scalar.addi v6 v1207
  v1208
def k0_dev56 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_813 : BitVec 32 := 8#32
  let v1211 : BitVec 32 := Scalar.xori v2 c8_i32_813
  let c1_i32_815 : BitVec 32 := 1#32
  let v1212 : BitVec 32 := Scalar.muli v1211 c1_i32_815
  let v1213 : BitVec 32 := Scalar.addi c0_i32_816 v1212
  v1213.toNat
def k0_mult102 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c9_i32_830 : BitVec 32 := 9#32
  let v1230 : BitVec 32 := Scalar.xori v321 c9_i32_830
  let c16_i32_831 : BitVec 32 := 16#32
  let v1231 : BitVec 32 := Scalar.muli v1230 c16_i32_831
  let v1232 : BitVec 32 := Scalar.addi v6 v1231
  v1232
def k0_mult103 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c9_i32_830 : BitVec 32 := 9#32
  let v1230 : BitVec 32 := Scalar.xori v321 c9_i32_830
  let c16_i32_831 : BitVec 32 := 16#32
  let v1231 : BitVec 32 := Scalar.muli v1230 c16_i32_831
  let v1232 : BitVec 32 := Scalar.addi v6 v1231
  v1232
def k0_dev57 (d0 : Dev nD) : Nat :=
  let c0_i32_835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_832 : BitVec 32 := 8#32
  let v1235 : BitVec 32 := Scalar.xori v2 c8_i32_832
  let c1_i32_834 : BitVec 32 := 1#32
  let v1236 : BitVec 32 := Scalar.muli v1235 c1_i32_834
  let v1237 : BitVec 32 := Scalar.addi c0_i32_835 v1236
  v1237.toNat
def k0_mult104 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c10_i32_849 : BitVec 32 := 10#32
  let v1254 : BitVec 32 := Scalar.xori v321 c10_i32_849
  let c16_i32_850 : BitVec 32 := 16#32
  let v1255 : BitVec 32 := Scalar.muli v1254 c16_i32_850
  let v1256 : BitVec 32 := Scalar.addi v6 v1255
  v1256
def k0_mult105 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c10_i32_849 : BitVec 32 := 10#32
  let v1254 : BitVec 32 := Scalar.xori v321 c10_i32_849
  let c16_i32_850 : BitVec 32 := 16#32
  let v1255 : BitVec 32 := Scalar.muli v1254 c16_i32_850
  let v1256 : BitVec 32 := Scalar.addi v6 v1255
  v1256
def k0_dev58 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_851 : BitVec 32 := 8#32
  let v1259 : BitVec 32 := Scalar.xori v2 c8_i32_851
  let c1_i32_853 : BitVec 32 := 1#32
  let v1260 : BitVec 32 := Scalar.muli v1259 c1_i32_853
  let v1261 : BitVec 32 := Scalar.addi c0_i32_854 v1260
  v1261.toNat
def k0_mult106 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c11_i32_868 : BitVec 32 := 11#32
  let v1278 : BitVec 32 := Scalar.xori v321 c11_i32_868
  let c16_i32_869 : BitVec 32 := 16#32
  let v1279 : BitVec 32 := Scalar.muli v1278 c16_i32_869
  let v1280 : BitVec 32 := Scalar.addi v6 v1279
  v1280
def k0_mult107 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c11_i32_868 : BitVec 32 := 11#32
  let v1278 : BitVec 32 := Scalar.xori v321 c11_i32_868
  let c16_i32_869 : BitVec 32 := 16#32
  let v1279 : BitVec 32 := Scalar.muli v1278 c16_i32_869
  let v1280 : BitVec 32 := Scalar.addi v6 v1279
  v1280
def k0_dev59 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_870 : BitVec 32 := 8#32
  let v1283 : BitVec 32 := Scalar.xori v2 c8_i32_870
  let c1_i32_872 : BitVec 32 := 1#32
  let v1284 : BitVec 32 := Scalar.muli v1283 c1_i32_872
  let v1285 : BitVec 32 := Scalar.addi c0_i32_873 v1284
  v1285.toNat
def k0_mult108 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c12_i32_887 : BitVec 32 := 12#32
  let v1302 : BitVec 32 := Scalar.xori v321 c12_i32_887
  let c16_i32_888 : BitVec 32 := 16#32
  let v1303 : BitVec 32 := Scalar.muli v1302 c16_i32_888
  let v1304 : BitVec 32 := Scalar.addi v6 v1303
  v1304
def k0_mult109 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c12_i32_887 : BitVec 32 := 12#32
  let v1302 : BitVec 32 := Scalar.xori v321 c12_i32_887
  let c16_i32_888 : BitVec 32 := 16#32
  let v1303 : BitVec 32 := Scalar.muli v1302 c16_i32_888
  let v1304 : BitVec 32 := Scalar.addi v6 v1303
  v1304
def k0_dev60 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_889 : BitVec 32 := 8#32
  let v1307 : BitVec 32 := Scalar.xori v2 c8_i32_889
  let c1_i32_891 : BitVec 32 := 1#32
  let v1308 : BitVec 32 := Scalar.muli v1307 c1_i32_891
  let v1309 : BitVec 32 := Scalar.addi c0_i32_892 v1308
  v1309.toNat
def k0_mult110 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c13_i32_906 : BitVec 32 := 13#32
  let v1326 : BitVec 32 := Scalar.xori v321 c13_i32_906
  let c16_i32_907 : BitVec 32 := 16#32
  let v1327 : BitVec 32 := Scalar.muli v1326 c16_i32_907
  let v1328 : BitVec 32 := Scalar.addi v6 v1327
  v1328
def k0_mult111 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c13_i32_906 : BitVec 32 := 13#32
  let v1326 : BitVec 32 := Scalar.xori v321 c13_i32_906
  let c16_i32_907 : BitVec 32 := 16#32
  let v1327 : BitVec 32 := Scalar.muli v1326 c16_i32_907
  let v1328 : BitVec 32 := Scalar.addi v6 v1327
  v1328
def k0_dev61 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_908 : BitVec 32 := 8#32
  let v1331 : BitVec 32 := Scalar.xori v2 c8_i32_908
  let c1_i32_910 : BitVec 32 := 1#32
  let v1332 : BitVec 32 := Scalar.muli v1331 c1_i32_910
  let v1333 : BitVec 32 := Scalar.addi c0_i32_911 v1332
  v1333.toNat
def k0_mult112 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c14_i32_925 : BitVec 32 := 14#32
  let v1350 : BitVec 32 := Scalar.xori v321 c14_i32_925
  let c16_i32_926 : BitVec 32 := 16#32
  let v1351 : BitVec 32 := Scalar.muli v1350 c16_i32_926
  let v1352 : BitVec 32 := Scalar.addi v6 v1351
  v1352
def k0_mult113 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c14_i32_925 : BitVec 32 := 14#32
  let v1350 : BitVec 32 := Scalar.xori v321 c14_i32_925
  let c16_i32_926 : BitVec 32 := 16#32
  let v1351 : BitVec 32 := Scalar.muli v1350 c16_i32_926
  let v1352 : BitVec 32 := Scalar.addi v6 v1351
  v1352
def k0_dev62 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_927 : BitVec 32 := 8#32
  let v1355 : BitVec 32 := Scalar.xori v2 c8_i32_927
  let c1_i32_929 : BitVec 32 := 1#32
  let v1356 : BitVec 32 := Scalar.muli v1355 c1_i32_929
  let v1357 : BitVec 32 := Scalar.addi c0_i32_930 v1356
  v1357.toNat
def k0_mult114 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c15_i32_944 : BitVec 32 := 15#32
  let v1374 : BitVec 32 := Scalar.xori v321 c15_i32_944
  let c16_i32_945 : BitVec 32 := 16#32
  let v1375 : BitVec 32 := Scalar.muli v1374 c16_i32_945
  let v1376 : BitVec 32 := Scalar.addi v6 v1375
  v1376
def k0_mult115 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let c3_i32 : BitVec 32 := 3#32
  let v3 : BitVec 32 := Scalar.andi v2 c3_i32
  let c4_i32_154 : BitVec 32 := 4#32
  let c2_i32_152 : BitVec 32 := 2#32
  let v314 : BitVec 32 := Scalar.shrsi v2 c2_i32_152
  let c1_i32_153 : BitVec 32 := 1#32
  let v315 : BitVec 32 := Scalar.andi v314 c1_i32_153
  let v316 : BitVec 32 := Scalar.muli c4_i32_154 v315
  let v317 : BitVec 32 := Scalar.addi v3 v316
  let c8_i32_157 : BitVec 32 := 8#32
  let c4_i32_155 : BitVec 32 := 4#32
  let v318 : BitVec 32 := Scalar.shrsi v2 c4_i32_155
  let c1_i32_156 : BitVec 32 := 1#32
  let v319 : BitVec 32 := Scalar.andi v318 c1_i32_156
  let v320 : BitVec 32 := Scalar.muli c8_i32_157 v319
  let v321 : BitVec 32 := Scalar.addi v317 v320
  let c15_i32_944 : BitVec 32 := 15#32
  let v1374 : BitVec 32 := Scalar.xori v321 c15_i32_944
  let c16_i32_945 : BitVec 32 := 16#32
  let v1375 : BitVec 32 := Scalar.muli v1374 c16_i32_945
  let v1376 : BitVec 32 := Scalar.addi v6 v1375
  v1376
def k0_dev63 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_946 : BitVec 32 := 8#32
  let v1379 : BitVec 32 := Scalar.xori v2 c8_i32_946
  let c1_i32_948 : BitVec 32 := 1#32
  let v1380 : BitVec 32 := Scalar.muli v1379 c1_i32_948
  let v1381 : BitVec 32 := Scalar.addi c0_i32_949 v1380
  v1381.toNat
def k0_mult116 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  v6
def k0_mult117 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  v6
def k0_mult118 (d0 : Dev nD) : BitVec 32 :=
  let c256_i32_1130 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let v1555 : BitVec 32 := Scalar.subi c256_i32_1130 v6
  v1555
def k0_mult119 (d0 : Dev nD) : BitVec 32 :=
  let c256_i32_1130 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.andi v2 c8_i32
  let c0_i32 : BitVec 32 := 0#32
  let v5 : BitVec 1 := Scalar.cmpi .ne v4 c0_i32
  let c256_i32 : BitVec 32 := 256#32
  let c0_i32_0 : BitVec 32 := 0#32
  let v6 : BitVec 32 := Scalar.select v5 c256_i32 c0_i32_0
  let v1555 : BitVec 32 := Scalar.subi c256_i32_1130 v6
  v1555
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x768 : Shape := ⟨2, ![512, 768]⟩
abbrev S768x16384 : Shape := ⟨2, ![768, 16384]⟩
abbrev S16384x768 : Shape := ⟨2, ![16384, 768]⟩
abbrev S2x256x768 : Shape := ⟨3, ![2, 256, 768]⟩
abbrev S2x256x16384 : Shape := ⟨3, ![2, 256, 16384]⟩
abbrev S2x256x256x64 : Shape := ⟨4, ![2, 256, 256, 64]⟩
abbrev S_ : Shape := ⟨0, ![]⟩
abbrev S2x256x256x1 : Shape := ⟨4, ![2, 256, 256, 1]⟩
abbrev S2x256x256x256 : Shape := ⟨4, ![2, 256, 256, 256]⟩
abbrev S2x256x256 : Shape := ⟨3, ![2, 256, 256]⟩
abbrev S2x256x64x256 : Shape := ⟨4, ![2, 256, 64, 256]⟩

abbrev nBuf : Space → Nat
  | .hbm => 53
  | .vmem => 0
  | .smem => 0
  | _ => 0

abbrev bufTy : (tb : Table) → Fin (tcTables nBuf tb) → BufTy
  | .hbm, ⟨0, _⟩ => ⟨S512x768, .bf16⟩
  | .hbm, ⟨1, _⟩ => ⟨S768x16384, .bf16⟩
  | .hbm, ⟨2, _⟩ => ⟨S768x16384, .bf16⟩
  | .hbm, ⟨3, _⟩ => ⟨S768x16384, .bf16⟩
  | .hbm, ⟨4, _⟩ => ⟨S16384x768, .bf16⟩
  | .hbm, ⟨5, _⟩ => ⟨S512x768, .f32⟩
  | .hbm, ⟨6, _⟩ => ⟨S2x256x768, .f32⟩
  | .hbm, ⟨7, _⟩ => ⟨S768x16384, .f32⟩
  | .hbm, ⟨8, _⟩ => ⟨S768x16384, .f32⟩
  | .hbm, ⟨9, _⟩ => ⟨S768x16384, .f32⟩
  | .hbm, ⟨10, _⟩ => ⟨S16384x768, .f32⟩
  | .hbm, ⟨11, _⟩ => ⟨S2x256x16384, .f32⟩
  | .hbm, ⟨12, _⟩ => ⟨S2x256x256x64, .f32⟩
  | .hbm, ⟨13, _⟩ => ⟨S2x256x16384, .f32⟩
  | .hbm, ⟨14, _⟩ => ⟨S2x256x256x64, .f32⟩
  | .hbm, ⟨15, _⟩ => ⟨S2x256x16384, .f32⟩
  | .hbm, ⟨16, _⟩ => ⟨S2x256x256x64, .f32⟩
  | .hbm, ⟨17, _⟩ => ⟨S_, .f32⟩
  | .hbm, ⟨18, _⟩ => ⟨S2x256x256x64, .f32⟩
  | .hbm, ⟨19, _⟩ => ⟨S_, .f32⟩
  | .hbm, ⟨20, _⟩ => ⟨S2x256x256x1, .f32⟩
  | .hbm, ⟨21, _⟩ => ⟨S_, .f32⟩
  | .hbm, ⟨22, _⟩ => ⟨S2x256x256x1, .f32⟩
  | .hbm, ⟨23, _⟩ => ⟨S2x256x256x256, .f32⟩
  | .hbm, ⟨24, _⟩ => ⟨S_, .f32⟩
  | .hbm, ⟨25, _⟩ => ⟨S2x256x256x256, .f32⟩
  | .hbm, ⟨26, _⟩ => ⟨S2x256x256x256, .f32⟩
  | .hbm, ⟨27, _⟩ => ⟨S_, .f32⟩
  | .hbm, ⟨28, _⟩ => ⟨S2x256x256, .f32⟩
  | .hbm, ⟨29, _⟩ => ⟨S2x256x256x1, .f32⟩
  | .hbm, ⟨30, _⟩ => ⟨S2x256x256x1, .f32⟩
  | .hbm, ⟨31, _⟩ => ⟨S2x256x256x1, .f32⟩
  | .hbm, ⟨32, _⟩ => ⟨S2x256x256x1, .f32⟩
  | .hbm, ⟨33, _⟩ => ⟨S2x256x256x256, .f32⟩
  | .hbm, ⟨34, _⟩ => ⟨S2x256x256x256, .f32⟩
  | .hbm, ⟨35, _⟩ => ⟨S2x256x256x256, .f32⟩
  | .hbm, ⟨36, _⟩ => ⟨S2x256x256x1, .f32⟩
  | .hbm, ⟨37, _⟩ => ⟨S_, .f32⟩
  | .hbm, ⟨38, _⟩ => ⟨S2x256x256, .f32⟩
  | .hbm, ⟨39, _⟩ => ⟨S2x256x256x1, .f32⟩
  | .hbm, ⟨40, _⟩ => ⟨S2x256x256x1, .f32⟩
  | .hbm, ⟨41, _⟩ => ⟨S2x256x256x1, .f32⟩
  | .hbm, ⟨42, _⟩ => ⟨S2x256x256x64, .f32⟩
  | .hbm, ⟨43, _⟩ => ⟨S2x256x256x64, .f32⟩
  | .hbm, ⟨44, _⟩ => ⟨S2x256x64x256, .f32⟩
  | .hbm, ⟨45, _⟩ => ⟨S2x256x256x64, .f32⟩
  | .hbm, ⟨46, _⟩ => ⟨S2x256x256x64, .f32⟩
  | .hbm, ⟨47, _⟩ => ⟨S2x256x256x1, .f32⟩
  | .hbm, ⟨48, _⟩ => ⟨S2x256x256x64, .f32⟩
  | .hbm, ⟨49, _⟩ => ⟨S2x256x256x64, .f32⟩
  | .hbm, ⟨50, _⟩ => ⟨S2x256x16384, .f32⟩
  | .hbm, ⟨51, _⟩ => ⟨S2x256x768, .f32⟩
  | .hbm, ⟨52, _⟩ => ⟨S512x768, .f32⟩
  | _, _ => ⟨S512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.K.Prog.lean ====
/-
The kernel's body as one structured program: the three runs of copies and the runs of waits as folds over lists.
-/
module

public import proofs.«01_k».proof.Proof.Gen.KernelIdeal
public import proofs.«01_k».proof.Proof.Gen.KernelIdeal.Skeleton

@[expose] public section

set_option synthInstance.maxSize 4096

noncomputable section

namespace Cert.Htp

open Cert.KernelIdeal Cert.KernelIdeal.Gen
open Idealize.ShloMosaic Idealize.SL.Sem

variable {F : FTy → Type} [FloatOps F]

/-! ## The memrefs and semaphores of the call -/

abbrev xM : Memref sig .tc .vmem S512x768 .bf16 := Memref.whole cc0_stg0_0
abbrev qM : Memref sig .tc .vmem S768x512 .bf16 := Memref.whole cc0_stg1_0
abbrev oM : Memref sig .tc .vmem S512x768 .bf16 := Memref.whole cc0_stg2_0
abbrev kM : Memref sig .tc .vmem S768x512 .bf16 := Memref.whole cc0_stg3_0
abbrev vM : Memref sig .tc .vmem S768x512 .bf16 := Memref.whole cc0_stg4_0
/-- The result's staging buffer. -/
abbrev yM : Memref sig .tc .vmem S512x768 .f32 := Memref.whole cc0_stg5_0
/-- The accumulator, the send buffer, the receive buffer and the gathered buffer. -/
abbrev accM : Memref sig .tc .vmem S512x768 .f32 := Memref.whole cc0_scratch0
abbrev sM : Memref sig .tc .vmem S512x768 .bf16 := Memref.whole cc0_scratch1
abbrev rM : Memref sig .tc .vmem S512x768 .bf16 := Memref.whole cc0_scratch2
abbrev gM : Memref sig .tc .vmem S512x768 .bf16 := Memref.whole cc0_scratch3

theorem inb47 (i : Fin 47) : ∀ a, (![i.val] : Fin 1 → Nat) a + S1.size a ≤ S47.size a := by revert i; decide

/-- The send semaphore of copy `i`, and its receive semaphore. -/
abbrev sSem (i : Fin 47) : DmaSem sig := (((cc0_scratch4 : DmaSems sig S47).slice (Rect.unit (s := S47) ![i.val] S1.size (inb47 i))).squeeze S_ squeezes_S1_S_).sem
abbrev rSem (i : Fin 47) : DmaSem sig := (((cc0_scratch5 : DmaSems sig S47).slice (Rect.unit (s := S47) ![i.val] S1.size (inb47 i))).squeeze S_ squeezes_S1_S_).sem
abbrev barS : Sem sig := (SemArray.scalar (sig.barrier 0 rfl) : Sems sig S_).sem

/-! ## The copies

The kernel makes 47 copies: the exchange with the sibling (`s0`), the fifteen of the reduce-scatter (`rs j`), the fifteen
of the gather (`ag j`), and the sixteen pieces forwarded to the sibling (`pc j`, the own block being `pc 0`). -/

inductive X where
  | s0 | rs (j : Fin 15) | ag (j : Fin 15) | pc (j : Fin 16)
  deriving DecidableEq

/-- A copy's semaphore number. -/
def X.ix : X → Fin 47
  | .s0 => 0
  | .rs j => ⟨1 + j.val, by omega⟩
  | .ag j => ⟨16 + j.val, by omega⟩
  | .pc j => ⟨31 + j.val, by omega⟩

/-- The device the kernel's `k`-th barrier signal names. -/
def sigDev (d : Dev nD) (k : Fin 16) : Dev nD := ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩] k
/-- The device a copy names. -/
def rsDev (d : Dev nD) (j : Fin 15) : Dev nD := ![⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩, ⟨k0_dev32 d, k0_dev32_lt d⟩] j
def agDev (d : Dev nD) (j : Fin 15) : Dev nD := ![⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩] j
def pcDev (d : Dev nD) (j : Fin 16) : Dev nD := ![⟨k0_dev33 d, k0_dev33_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩, ⟨k0_dev63 d, k0_dev63_lt d⟩] j

abbrev rct (off : Fin 2 → ℕ) (h : ∀ a, off a + S16x768.size a ≤ S512x768.size a) : Rect S512x768 := Rect.unit (s := S512x768) off S16x768.size h
abbrev rct2 (off : Fin 2 → ℕ) (h : ∀ a, off a + S256x768.size a ≤ S512x768.size a) : Rect S512x768 := Rect.unit (s := S512x768) off S256x768.size h
abbrev slc {e : EltTy} (M : Memref sig .tc .vmem S512x768 e) (off : Fin 2 → ℕ) (h : ∀ a, off a + S16x768.size a ≤ S512x768.size a) :
    Memref sig .tc .vmem S16x768 e := M.slice (rct off h) (fun _ => rfl)
abbrev slc2 {e : EltTy} (M : Memref sig .tc .vmem S512x768 e) (off : Fin 2 → ℕ) (h : ∀ a, off a + S256x768.size a ≤ S512x768.size a) :
    Memref sig .tc .vmem S256x768 e := M.slice (rct2 off h) (fun _ => rfl)

abbrev P (F : FTy → Type) [FloatOps F] (α : Type) : Type 1 := Prog (TpuEff nD τ sig (Elt F) Λ₀ .tc) α

/-- The device-dependent rows of a copy: the block of the send buffer a reduce-scatter copy reads, the receive slot it writes,
    the receive slot read afterwards, the own block and the gathered blocks. -/
abbrev o4 (d : Dev nD) (j : Fin 15) : Fin 2 → ℕ := k0_off4 d (BitVec.ofNat 32 (1 + j.val))
abbrev o5 (d : Dev nD) (j : Fin 15) : Fin 2 → ℕ := k0_off5 d (BitVec.ofNat 32 (1 + j.val))
abbrev o8 (d : Dev nD) (j : Fin 15) : Fin 2 → ℕ := k0_off8 d (BitVec.ofNat 32 (1 + j.val))

abbrev src0 : Memref sig .tc .vmem S256x768 .bf16 := slc2 sM ![0, 0] inb_S512x768_S256x768_0_0
abbrev dst0 : Memref sig .tc .vmem S256x768 .bf16 := slc2 rM ![0, 0] inb_S512x768_S256x768_0_0
abbrev srcR (d : Dev nD) (j : Fin 15) : Memref sig .tc .vmem S16x768 .bf16 := slc sM (o4 d j) (k0_off4_inb d j)
abbrev dstR (d : Dev nD) : Memref sig .tc .vmem S16x768 .bf16 := slc rM (k0_off3 d) (k0_off3_inb d)
abbrev own (d : Dev nD) : Memref sig .tc .vmem S16x768 .bf16 := slc gM (k0_off7 d) (k0_off7_inb d)
abbrev fwd (d : Dev nD) (j : Fin 15) : Memref sig .tc .vmem S16x768 .bf16 := slc gM (o8 d j) (k0_off8_inb d j)

theorem src0_we : src0.view.WordExact := (Memref.isWhole_whole _).wordExact_slice rfl _ wordsbf16_S512x768_S256x768_0_0
theorem dst0_we : dst0.view.WordExact := (Memref.isWhole_whole _).wordExact_slice rfl _ wordsbf16_S512x768_S256x768_0_0
theorem srcR_we (d : Dev nD) (j : Fin 15) : (srcR d j).view.WordExact := (Memref.isWhole_whole _).wordExact_slice rfl _ (k0_off4_wordsbf16 d j)
theorem dstR_we (d : Dev nD) : (dstR d).view.WordExact := (Memref.isWhole_whole _).wordExact_slice rfl _ (k0_off3_wordsbf16 d)
theorem own_we (d : Dev nD) : (own d).view.WordExact := (Memref.isWhole_whole _).wordExact_slice rfl _ (k0_off7_wordsbf16 d)
theorem fwd_we (d : Dev nD) (j : Fin 15) : (fwd d j).view.WordExact := (Memref.isWhole_whole _).wordExact_slice rfl _ (k0_off8_wordsbf16 d j)

/-- One copy of the block `src` to `dst` on device `t` on semaphores number `i`. -/
def copy {s : Shape} (src dst : Memref sig .tc .vmem s .bf16) (t : Dev nD) (i : Fin 47) (h1 : src.view.WordExact) (h2 : dst.view.WordExact)
    (h3 : dst.view.ref.isScScratch = false) : P F PUnit :=
  Prog.lift (.enqueueDma src (.remote (Dev.tc t) dst (.dma (sSem i)) h3) (.dma (rSem i)) h1 h2 ⟨⟨rfl, Or.inl rfl⟩, trivial⟩)
/-- The two waits of a copy. -/
def waitSend {s : Shape} (src dst : Memref sig .tc .vmem s .bf16) (i : Fin 47) (h1 : src.view.WordExact) (h2 : dst.view.WordExact) : P F PUnit :=
  Prog.lift (.waitDma2 (sSem i) dst src h2 h1)
def waitRecv {s : Shape} (src dst : Memref sig .tc .vmem s .bf16) (i : Fin 47) (h1 : src.view.WordExact) (h2 : dst.view.WordExact) : P F PUnit :=
  Prog.lift (.waitDma2 (rSem i) src dst h1 h2)

/-- The kernel's copies, by name. -/
def send (d : Dev nD) : X → P F PUnit
  | .s0 => copy src0 dst0 ⟨k0_dev17 d, k0_dev17_lt d⟩ (X.ix .s0) src0_we dst0_we rfl
  | .rs j => copy (srcR d j) (dstR d) (rsDev d j) (X.ix (.rs j)) (srcR_we d j) (dstR_we d) rfl
  | .ag j => copy (own d) (own d) (agDev d j) (X.ix (.ag j)) (own_we d) (own_we d) rfl
  | .pc ⟨0, h⟩ => copy (own d) (own d) (pcDev d ⟨0, h⟩) (X.ix (.pc ⟨0, h⟩)) (own_we d) (own_we d) rfl
  | .pc ⟨j + 1, h⟩ => copy (fwd d ⟨j, by omega⟩) (fwd d ⟨j, by omega⟩) (pcDev d ⟨j + 1, h⟩) (X.ix (.pc ⟨j + 1, h⟩)) (fwd_we d ⟨j, by omega⟩) (fwd_we d ⟨j, by omega⟩) rfl
/-- The wait on a copy's send semaphore, and on its receive semaphore. -/
def wSend (d : Dev nD) : X → P F PUnit
  | .s0 => waitSend src0 dst0 (X.ix .s0) src0_we dst0_we
  | .rs j => waitSend (srcR d j) (dstR d) (X.ix (.rs j)) (srcR_we d j) (dstR_we d)
  | .ag j => waitSend (own d) (own d) (X.ix (.ag j)) (own_we d) (own_we d)
  | .pc ⟨0, h⟩ => waitSend (own d) (own d) (X.ix (.pc ⟨0, h⟩)) (own_we d) (own_we d)
  | .pc ⟨j + 1, h⟩ => waitSend (fwd d ⟨j, by omega⟩) (fwd d ⟨j, by omega⟩) (X.ix (.pc ⟨j + 1, h⟩)) (fwd_we d ⟨j, by omega⟩) (fwd_we d ⟨j, by omega⟩)
def wRecv (d : Dev nD) : X → P F PUnit
  | .s0 => waitRecv src0 dst0 (X.ix .s0) src0_we dst0_we
  | .rs j => waitRecv (srcR d j) (dstR d) (X.ix (.rs j)) (srcR_we d j) (dstR_we d)
  | .ag j => waitRecv (own d) (own d) (X.ix (.ag j)) (own_we d) (own_we d)
  | .pc ⟨0, h⟩ => waitRecv (own d) (own d) (X.ix (.pc ⟨0, h⟩)) (own_we d) (own_we d)
  | .pc ⟨j + 1, h⟩ => waitRecv (fwd d ⟨j, by omega⟩) (fwd d ⟨j, by omega⟩) (X.ix (.pc ⟨j + 1, h⟩)) (fwd_we d ⟨j, by omega⟩) (fwd_we d ⟨j, by omega⟩)

/-- `f` for each element of a list in order, then `k`. -/
def each {α β : Type} (f : α → P F PUnit) : List α → P F β → P F β
  | [], k => k
  | a :: l, k => f a >>= fun _ => each f l k

abbrev l15 : List (Fin 15) := [0, 1, 2, 3, 4, 5, 6, 7, 8, 9, 10, 11, 12, 13, 14]
abbrev l16 : List (Fin 16) := [0, 1, 2, 3, 4, 5, 6, 7, 8, 9, 10, 11, 12, 13, 14, 15]

/-! ## The computation between the copies -/

/-- One batch's attention and output product, first computed (the rows sent to the sibling): from the four weights and the rows of `x`. -/
def batchA (v56 v60 v62 : Vec F S768x512 .bf16) (v64 : Vec F S512x768 .bf16) (v70 : Vec F S256x768 .bf16) : FVec F S256x768 .f32 :=
  k0_pay15 (k0_pay5 v64) (k0_pay7 v56 v70) (k0_pay9 (k0_pay8 v60 v70)) (k0_pay10 (k0_pay4 v62) (k0_pay6 v70))
    (k0_pay11 (k0_pay4 v62) (k0_pay6 v70) (k0_pay7 v56 v70) (k0_pay8 v60 v70)) (k0_pay12 (k0_pay4 v62) (k0_pay6 v70) (k0_pay7 v56 v70) (k0_pay8 v60 v70))
    (k0_pay13 (k0_pay4 v62) (k0_pay6 v70) (k0_pay7 v56 v70) (k0_pay8 v60 v70)) (k0_pay14 (k0_pay4 v62) (k0_pay6 v70) (k0_pay7 v56 v70) (k0_pay8 v60 v70))
/-- The same for the rows kept, as the kernel's second call spells it. -/
def batchB (v56 v60 v62 : Vec F S768x512 .bf16) (v64 : Vec F S512x768 .bf16) (v190 : Vec F S256x768 .bf16) : FVec F S256x768 .f32 :=
  k0_pay32 (k0_pay5 v64) (k0_pay19 (k0_pay2 v56) v190) (k0_pay20 (k0_pay3 v60) v190) (k0_pay21 (k0_pay4 v62) v190)
    (k0_pay25 (k0_pay23 (k0_pay2 v56) (k0_pay3 v60) v190) (k0_pay24 (k0_pay2 v56) (k0_pay3 v60) (k0_pay4 v62) v190))
    (k0_pay26 (k0_pay19 (k0_pay2 v56) v190) (k0_pay20 (k0_pay3 v60) v190) (k0_pay21 (k0_pay4 v62) v190))
    (k0_pay27 (k0_pay19 (k0_pay2 v56) v190) (k0_pay20 (k0_pay3 v60) v190) (k0_pay21 (k0_pay4 v62) v190))
    (k0_pay28 (k0_pay19 (k0_pay2 v56) v190) (k0_pay20 (k0_pay3 v60) v190) (k0_pay21 (k0_pay4 v62) v190))
    (k0_pay29 (k0_pay19 (k0_pay2 v56) v190) (k0_pay20 (k0_pay3 v60) v190) (k0_pay21 (k0_pay4 v62) v190))
    (k0_pay30 (k0_pay19 (k0_pay2 v56) v190)) (k0_pay31 (k0_pay20 (k0_pay3 v60) v190))
/-- The sum of the fifteen received blocks. -/
def sum15 (w : Fin 15 → Vec F S16x768 .bf16) : FVec F S16x768 .f32 :=
  k0_pay38 (k0_pay37 (k0_pay36 (w 0) (w 1) (w 2) (w 3) (w 4)) (w 5) (w 6) (w 7) (w 8) (w 9)) (w 10) (w 11) (w 12) (w 13) (w 14)

abbrev ld2 {e : EltTy} (M : Memref sig .tc .vmem S512x768 e) (off : Fin 2 → ℕ) (h : ∀ a, off a + S256x768.size a ≤ S512x768.size a) :
    P F (Vec F S256x768 e) := Prog.lift (.load M (rct2 off h).toLoadRect (View.loadsAt_vmem h_S256x768))
abbrev ld {e : EltTy} (M : Memref sig .tc .vmem S512x768 e) (off : Fin 2 → ℕ) (h : ∀ a, off a + S16x768.size a ≤ S512x768.size a) :
    P F (Vec F S16x768 e) := Prog.lift (.load M (rct off h).toLoadRect (View.loadsAt_vmem h_S16x768))
abbrev ldw (M : Memref sig .tc .vmem S768x512 .bf16) : P F (Vec F S768x512 .bf16) :=
  Prog.lift (.load M (Rect.unit (s := S768x512) ![0, 0] S768x512.size inb_S768x512_S768x512_0_0).toLoadRect (View.loadsAt_vmem h_S768x512))
abbrev st2 (M : Memref sig .tc .vmem S512x768 .f32) (off : Fin 2 → ℕ) (h : ∀ a, off a + S256x768.size a ≤ S512x768.size a) (v : FVec F S256x768 .f32) :
    P F PUnit := Prog.lift (.store M (rct2 off h) v Finset.univ (View.stores_vmem_bits_univ h_S256x768 rfl) (.inl rfl))

/-- The part of the body before the barrier wait: the sixteen signals. -/
def sig1 (d : Dev nD) (k : Fin 16) : P F PUnit := semSignalWord (sigDev d k) barS 1#32

/-- After the pieces are waited for: the other half of the result. -/
def tailF (d : Dev nD) : P F PUnit := do
  let v1558 ← ld2 gM (k0_off1 d) (k0_off1_inb d)
  let _ ← ld2 yM (k0_off1 d) (k0_off1_inb d)
  st2 yM (k0_off1 d) (k0_off1_inb d) (k0_pay1 v1558)
  pure ⟨⟩
/-- The gather: the own block to the sibling and to the fifteen, then each arrived block forwarded to the sibling, then the own half of the result
    from the gathered buffer, then the waits for the pieces. -/
def tailE (d : Dev nD) : P F PUnit := do
  send d (.pc 0)
  each (fun j => send d (.ag j)) l15 <|
    each (fun j : Fin 15 => (wSend d (.ag j) >>= fun _ => wRecv d (.ag j) >>= fun _ => send d (.pc j.succ) : P F PUnit)) l15 do
      let v1390 ← ld2 gM (k0_off2 d) (k0_off2_inb d)
      let _ ← ld2 yM (k0_off2 d) (k0_off2_inb d)
      st2 yM (k0_off2 d) (k0_off2_inb d) (k0_pay41 v1390)
      each (fun j : Fin 16 => (wSend d (.pc j) >>= fun _ => wRecv d (.pc j) : P F PUnit)) l16 (tailF d)
/-- The own block's sum, written to the gathered buffer and the result. -/
def tailD (d : Dev nD) : P F PUnit := do
  let w0 ← ld rM (o5 d 0) (k0_off5_inb d 0)
  let w1 ← ld rM (o5 d 1) (k0_off5_inb d 1)
  let w2 ← ld rM (o5 d 2) (k0_off5_inb d 2)
  let w3 ← ld rM (o5 d 3) (k0_off5_inb d 3)
  let w4 ← ld rM (o5 d 4) (k0_off5_inb d 4)
  let w5 ← ld rM (o5 d 5) (k0_off5_inb d 5)
  let w6 ← ld rM (o5 d 6) (k0_off5_inb d 6)
  let w7 ← ld rM (o5 d 7) (k0_off5_inb d 7)
  let w8 ← ld rM (o5 d 8) (k0_off5_inb d 8)
  let w9 ← ld rM (o5 d 9) (k0_off5_inb d 9)
  let w10 ← ld rM (o5 d 10) (k0_off5_inb d 10)
  let w11 ← ld rM (o5 d 11) (k0_off5_inb d 11)
  let w12 ← ld rM (o5 d 12) (k0_off5_inb d 12)
  let w13 ← ld rM (o5 d 13) (k0_off5_inb d 13)
  let w14 ← ld rM (o5 d 14) (k0_off5_inb d 14)
  let v841 ← ld accM (k0_off6 d) (k0_off6_inb d)
  let _ ← ld gM (k0_off6 d) (k0_off6_inb d)
  Prog.lift (.store gM (rct (k0_off6 d) (k0_off6_inb d)) (k0_pay40 (sum15 ![w0, w1, w2, w3, w4, w5, w6, w7, w8, w9, w10, w11, w12, w13, w14]) v841) Finset.univ (View.stores_vmem h_S16x768 ((Memref.isWhole_whole _).storeExact_slice rfl _ (k0_off6_packedbf16 d)) (fun _ => rfl)) (.inl rfl))
  let _ ← ld yM (k0_off6 d) (k0_off6_inb d)
  Prog.lift (.store yM (rct (k0_off6 d) (k0_off6_inb d)) (k0_pay39 (sum15 ![w0, w1, w2, w3, w4, w5, w6, w7, w8, w9, w10, w11, w12, w13, w14]) v841) Finset.univ (View.stores_vmem_bits_univ h_S16x768 rfl) (.inl rfl))
  tailE d
/-- The reduce-scatter: fifteen copies, then their waits. -/
def tailC (d : Dev nD) : P F PUnit :=
  each (fun j => send d (.rs j)) l15 <|
    each (fun j : Fin 15 => (wSend d (.rs j) >>= fun _ => wRecv d (.rs j) : P F PUnit)) l15 (tailD d)
/-- From the second batch's result: its store, the sibling's half added, the sum stored and copied to the send buffer. -/
def tailB (d : Dev nD) (vB : FVec F S256x768 .f32) : P F PUnit := do
  let _ ← ld2 accM (k0_off2 d) (k0_off2_inb d)
  st2 accM (k0_off2 d) (k0_off2_inb d) vB
  wSend d .s0
  wRecv d .s0
  let v305 ← ld2 accM (k0_off2 d) (k0_off2_inb d)
  let v306 ← ld2 rM ![0, 0] inb_S512x768_S256x768_0_0
  let _ ← ld2 accM (k0_off2 d) (k0_off2_inb d)
  st2 accM (k0_off2 d) (k0_off2_inb d) (k0_pay34 v305 v306)
  let _ ← ld2 sM ![256, 0] inb_S512x768_S256x768_256_0
  Prog.lift (.store sM (rct2 ![256, 0] inb_S512x768_S256x768_256_0) (k0_pay35 v305 v306) Finset.univ (View.stores_vmem h_S256x768 ((Memref.isWhole_whole _).storeExact_slice rfl _ packedbf16_S512x768_S256x768_256_0) (fun _ => rfl)) (.inl rfl))
  tailC d
/-- From the barrier wait on: the weights, both batches, the exchange with the sibling. -/
def tailA (d : Dev nD) : P F PUnit := do
  semWaitWord barS 16#32
  let v56 ← ldw qM
  let v60 ← ldw kM
  let v62 ← ldw vM
  let v64 : Vec F S512x768 .bf16 ← Prog.lift (.load oM (Rect.unit (s := S512x768) ![0, 0] S512x768.size inb_S512x768_S512x768_0_0).toLoadRect (View.loadsAt_vmem h_S512x768))
  let v70 ← ld2 xM (k0_off1 d) (k0_off1_inb d)
  let _ ← ld2 accM (k0_off1 d) (k0_off1_inb d)
  st2 accM (k0_off1 d) (k0_off1_inb d) (k0_pay16 (batchA v56 v60 v62 v64 v70))
  let v175 ← ld2 accM (k0_off1 d) (k0_off1_inb d)
  let _ ← ld2 sM ![0, 0] inb_S512x768_S256x768_0_0
  Prog.lift (.store sM (rct2 ![0, 0] inb_S512x768_S256x768_0_0) (k0_pay17 v175) Finset.univ (View.stores_vmem h_S256x768 ((Memref.isWhole_whole _).storeExact_slice rfl _ packedbf16_S512x768_S256x768_0_0) (fun _ => rfl)) (.inl rfl))
  send d .s0
  let v190 ← ld2 xM (k0_off2 d) (k0_off2_inb d)
  tailB d (batchB v56 v60 v62 v64 v190)
/-- The whole body. -/
def body : P F PUnit := do
  let d ← Prog.lift .deviceId
  each (sig1 d) l16 (tailA d)

set_option maxRecDepth 65536 in
/-- The printed body is the structured program. -/
theorem body_eq : cc0_body (F := F) xM (Memref.isWhole_whole _) qM (Memref.isWhole_whole _) oM (Memref.isWhole_whole _) kM (Memref.isWhole_whole _)
    vM (Memref.isWhole_whole _) yM (Memref.isWhole_whole _) accM (Memref.isWhole_whole _) sM (Memref.isWhole_whole _) rM (Memref.isWhole_whole _)
    gM (Memref.isWhole_whole _) cc0_scratch4 cc0_scratch5 = body (F := F) := rfl

end Cert.Htp

end
-- ==== Proof.K.Mesh.lean ====
/-
The mesh's arithmetic: which device each signal and copy names, and which rows each copy reads and writes.
-/
module

public import proofs.«01_k».proof.Proof.K.Prog
public import Idealize.ShloMosaic.Lib.Pipeline.ValueKit.Geometry

@[expose] public section

namespace Cert.Htp

open Cert.KernelIdeal Cert.KernelIdeal.Gen
open Idealize.ShloMosaic Idealize.SL.Sem

/-! ## Devices: a half (bit 3 of the number) and a group of sixteen (the four other bits) -/

/-- The number of a device within its half. -/
def grp (d : Dev nD) : Fin 16 := ⟨d.val % 8 + d.val / 16 * 8, by have := d.isLt; change d.val < 32 at this; omega⟩
/-- The half a device belongs to. -/
def half (d : Dev nD) : ℕ := d.val / 8 % 2
/-- The device of a half with a given number. -/
def devOf (h : ℕ) (g : ℕ) : Dev nD := ⟨(g % 8 + h % 2 * 8 + g / 8 % 2 * 16) % 32, Nat.mod_lt _ (by decide)⟩

/-- The sibling: the same number in the other half. -/
def sib (d : Dev nD) : Dev nD := ⟨(d.val ^^^ 8) % 32, Nat.mod_lt _ (by decide)⟩
/-- The `j`-th of the fifteen peers in the same half. -/
def peer (d : Dev nD) (j : Fin 15) : Dev nD :=
  ⟨(d.val ^^^ ((j.val + 1) % 8 + (j.val + 1) / 8 * 16)) % 32, Nat.mod_lt _ (by decide)⟩
/-- The device itself, then its fifteen peers. -/
def nb (d : Dev nD) (j : Fin 16) : Dev nD := ⟨(d.val ^^^ (j.val % 8 + j.val / 8 * 16)) % 32, Nat.mod_lt _ (by decide)⟩
/-- The devices the sixteen barrier signals go to: the fifteen peers, then the sibling. -/
def sp (d : Dev nD) (k : Fin 16) : Dev nD := if h : k.val < 15 then peer d ⟨k.val, h⟩ else sib d

/-- The first row of a device's half of the result, and of its own block. -/
def t8 (d : Dev nD) : ℕ := half d * 256
def myb (d : Dev nD) : ℕ := half d * 256 + (grp d).val * 16

theorem sib_sib (d : Dev nD) : sib (sib d) = d := by revert d; decide
theorem peer_peer (d : Dev nD) (j : Fin 15) : peer (peer d j) j = d := by revert d j; decide
theorem sp_sp (d : Dev nD) (k : Fin 16) : sp (sp d k) k = d := by revert d k; decide
theorem nb_zero (d : Dev nD) : nb d 0 = d := by revert d; decide
theorem nb_succ (d : Dev nD) (j : Fin 15) : nb d j.succ = peer d j := by revert d j; decide
theorem half_sib (d : Dev nD) : half (sib d) = 1 - half d := by revert d; decide
theorem half_nb (d : Dev nD) (j : Fin 16) : half (nb d j) = half d := by revert d j; decide
theorem half_peer (d : Dev nD) (j : Fin 15) : half (peer d j) = half d := by revert d j; decide
theorem half_lt (d : Dev nD) : half d < 2 := by revert d; decide
theorem grp_sib (d : Dev nD) : grp (sib d) = grp d := by revert d; decide
theorem devOf_half_grp (d : Dev nD) : devOf (half d) (grp d).val = d := by revert d; decide
theorem half_devOf (h : Fin 2) (g : Fin 16) : half (devOf h.val g.val) = h.val := by revert h g; decide
theorem grp_devOf (h : Fin 2) (g : Fin 16) : grp (devOf h.val g.val) = g := by revert h g; decide
theorem grp_nb_inj (d : Dev nD) (j j' : Fin 16) (h : grp (nb d j) = grp (nb d j')) : j = j' := by revert d j j' h; decide
theorem grp_nb_surj (d : Dev nD) (g : Fin 16) : ∃ j, grp (nb d j) = g := by revert d g; decide

/-- Signals and copies exchange: a permutation of the devices each. -/
def spEquiv (k : Fin 16) : Dev nD ≃ Dev nD := ⟨fun d => sp d k, fun d => sp d k, fun d => sp_sp d k, fun d => sp_sp d k⟩

/-- The device a copy goes to. -/
def tgt (d : Dev nD) : X → Dev nD
  | .s0 => sib d
  | .rs j => peer d j
  | .ag j => peer d j
  | .pc _ => sib d
theorem tgt_tgt (d : Dev nD) (x : X) : tgt (tgt d x) x = d := by
  cases x
  · exact sib_sib d
  · exact peer_peer d _
  · exact peer_peer d _
  · exact sib_sib d
def tgtEquiv (x : X) : Dev nD ≃ Dev nD := ⟨fun d => tgt d x, fun d => tgt d x, fun d => tgt_tgt d x, fun d => tgt_tgt d x⟩

/-! ## The printed device chains and offsets -/

theorem sigDev_eq (d : Dev nD) (k : Fin 16) : sigDev d k = sp d k := by revert d k; decide +kernel
theorem s0Dev_eq (d : Dev nD) : (⟨k0_dev17 d, k0_dev17_lt d⟩ : Dev nD) = sib d := by revert d; decide +kernel
theorem rsDev_eq (d : Dev nD) (j : Fin 15) : rsDev d j = peer d j := by revert d j; decide +kernel
theorem agDev_eq (d : Dev nD) (j : Fin 15) : agDev d j = peer d j := by revert d j; decide +kernel
theorem pcDev_eq (d : Dev nD) (j : Fin 16) : pcDev d j = sib d := by revert d j; decide +kernel

theorem off1_eq (d : Dev nD) : k0_off1 d = ![256 - t8 d, 0] := by revert d; decide +kernel
theorem off2_eq (d : Dev nD) : k0_off2 d = ![t8 d, 0] := by revert d; decide +kernel
theorem off3_eq (d : Dev nD) : k0_off3 d = ![256 + (grp d).val * 16, 0] := by revert d; decide +kernel
theorem off4_eq (d : Dev nD) (j : Fin 15) : o4 d j = ![256 + (grp (peer d j)).val * 16, 0] := by revert d j; decide +kernel
theorem off5_eq (d : Dev nD) (j : Fin 15) : o5 d j = ![256 + (grp (peer d j)).val * 16, 0] := by revert d j; decide +kernel
theorem off6_eq (d : Dev nD) : k0_off6 d = ![myb d, 0] := by revert d; decide +kernel
theorem off7_eq (d : Dev nD) : k0_off7 d = ![myb d, 0] := by revert d; decide +kernel
theorem off8_eq (d : Dev nD) (j : Fin 15) : o8 d j = ![myb (peer d j), 0] := by revert d j; decide +kernel

/-! ## Semaphore numbers -/

theorem sSem_eq (i : Fin 47) : sSem i = (⟨6 + i.val, by have := i.isLt; show 6 + i.val < 100; omega⟩ : Fin 100) := by revert i; decide +kernel
theorem rSem_eq (i : Fin 47) : rSem i = (⟨53 + i.val, by have := i.isLt; show 53 + i.val < 100; omega⟩ : Fin 100) := by revert i; decide +kernel

/-- The copy with a given semaphore number. -/
def X.of (i : Fin 47) : X :=
  if i.val = 0 then .s0 else if h : i.val < 16 then .rs ⟨i.val - 1, by omega⟩ else if h : i.val < 31 then .ag ⟨i.val - 16, by omega⟩
  else .pc ⟨i.val - 31, by omega⟩
theorem X.of_ix (x : X) : X.of x.ix = x := by
  cases x with
  | s0 => rfl
  | rs j => revert j; decide
  | ag j => revert j; decide
  | pc j => revert j; decide
theorem X.ix_of (i : Fin 47) : (X.of i).ix = i := by revert i; decide
theorem X.ix_inj {x y : X} (h : x.ix = y.ix) : x = y := by rw [← X.of_ix x, h, X.of_ix]
def xEquiv : X ≃ Fin 47 := ⟨X.ix, X.of, X.of_ix, X.ix_of⟩
instance : Fintype X := Fintype.ofEquiv _ xEquiv.symm

/-- All the copies, in the order of their numbers. -/
def allX : List X := .s0 :: (l15.map X.rs ++ (l15.map X.ag ++ l16.map X.pc))

/-- What a semaphore number of the DMA pool is for. -/
inductive Role where
  | snd (x : X) | rcv (x : X) | other
  deriving DecidableEq
def role (q : DmaSem sig) : Role :=
  if h : 6 ≤ q.val ∧ q.val < 53 then .snd (X.of ⟨q.val - 6, by omega⟩)
  else if h : 53 ≤ q.val ∧ q.val < 100 then .rcv (X.of ⟨q.val - 53, by omega⟩) else .other
theorem role_s (x : X) : role (sSem x.ix) = .snd x := by
  have h : ∀ i, role (sSem i) = .snd (X.of i) := by decide +kernel
  rw [h, X.of_ix]
theorem role_r (x : X) : role (rSem x.ix) = .rcv x := by
  have h : ∀ i, role (rSem i) = .rcv (X.of i) := by decide +kernel
  rw [h, X.of_ix]

/-! ## Rows -/

/-- An array of `n` rows of 768. -/
abbrev Sh (n : ℕ) : Shape := ⟨2, ![n, 768]⟩
/-- An index by its row and column. -/
def mk {n : ℕ} (r : Fin n) (c : Fin 768) : (Sh n).Idx := fun a => match a with | ⟨0, _⟩ => r | ⟨1, _⟩ => c
theorem mk_eta {n : ℕ} (i : (Sh n).Idx) : mk (n := n) (i 0) (i 1) = i := by funext a; fin_cases a <;> rfl
/-- The rows `o ≤ r < o + n` of a 512-row array. -/
def rows (o n : ℕ) : Finset S512x768.Idx := Finset.univ.filter fun i => o ≤ (i 0).val ∧ (i 0).val < o + n
theorem mem_rows {o n : ℕ} {i : S512x768.Idx} : i ∈ rows o n ↔ o ≤ (i 0).val ∧ (i 0).val < o + n := by simp [rows]
/-- An `n`-row block laid at row `o` of a 512-row array (its rows repeat elsewhere). -/
def up {α : Type} {n : ℕ} (hn : 0 < n) (v : (Sh n).Idx → α) (o : ℕ) (i : S512x768.Idx) : α :=
  v (mk ⟨((i 0).val - o) % n, Nat.mod_lt _ hn⟩ (i 1))

/-- The sixteen blocks of a half. -/
abbrev blk (d : Dev nD) : Finset S512x768.Idx := rows (myb d) 16
/-- A slot of the reduce-scatter, in the send and receive buffers. -/
abbrev slot (d : Dev nD) : Finset S512x768.Idx := rows (256 + (grp d).val * 16) 16

theorem lt512 (i : S512x768.Idx) : (i 0).val < 512 := (i 0).isLt
theorem lt768 (i : S512x768.Idx) : (i 1).val < 768 := (i 1).isLt

theorem set_unit {n o : ℕ} {off : Fin 2 → ℕ} (h : ∀ a, off a + (Sh n).size a ≤ S512x768.size a) (ho : off = ![o, 0]) :
    (Rect.unit (s := S512x768) off (Sh n).size h).set = rows o n := by
  subst ho
  ext i
  rw [Rect.mem_set_unit, mem_rows]
  constructor
  · intro hi; exact hi 0
  · intro hi a
    fin_cases a
    · exact hi
    · exact ⟨Nat.zero_le _, by have := lt768 i; show (i 1).val < 0 + 768; omega⟩

theorem emb_unit {n o : ℕ} {off : Fin 2 → ℕ} (h : ∀ a, off a + (Sh n).size a ≤ S512x768.size a) (ho : off = ![o, 0]) (j : (Sh n).Idx) :
    (((Rect.unit (s := S512x768) off (Sh n).size h).emb j 0 : Fin _) : ℕ) = o + (j 0).val ∧ (Rect.unit (s := S512x768) off (Sh n).size h).emb j 1 = j 1 := by
  subst ho
  have h0 := ValueKit.rect_emb_unit_val (s := S512x768) ![o, 0] (Sh n).size h j (0 : Fin 2)
  have h1 := ValueKit.rect_emb_unit_val (s := S512x768) ![o, 0] (Sh n).size h j (1 : Fin 2)
  exact ⟨h0, Fin.ext (h1.trans (Nat.zero_add _))⟩

/-- A block laid at row `o`, read back at row `o`. -/
theorem up_emb {α : Type} {n o : ℕ} (hn : 0 < n) {off : Fin 2 → ℕ} (h : ∀ a, off a + (Sh n).size a ≤ S512x768.size a) (ho : off = ![o, 0])
    (v : (Sh n).Idx → α) (j : (Sh n).Idx) : up hn v o ((Rect.unit (s := S512x768) off (Sh n).size h).emb j) = v j := by
  obtain ⟨h0, h1⟩ := emb_unit h ho j
  unfold up
  refine congrArg v (Eq.trans ?_ (mk_eta j))
  have hj : (j 0).val < n := (j 0).isLt
  rw [h1]
  refine congrArg (fun r => mk r (j 1)) (Fin.ext ?_)
  show (((Rect.unit (s := S512x768) off (Sh n).size h).emb j 0).val - o) % n = (j 0).val
  rw [h0, Nat.add_sub_cancel_left, Nat.mod_eq_of_lt hj]

theorem exists_emb {n o : ℕ} {off : Fin 2 → ℕ} (h : ∀ a, off a + (Sh n).size a ≤ S512x768.size a) (ho : off = ![o, 0]) {i : S512x768.Idx}
    (hi : i ∈ rows o n) : ∃ j, (Rect.unit (s := S512x768) off (Sh n).size h).emb j = i := by
  rw [← set_unit h ho, ← Rect.map_emb_univ] at hi
  obtain ⟨j, -, hj⟩ := Finset.mem_map.mp hi
  exact ⟨j, hj⟩

theorem rows_disjoint {o n o' n' : ℕ} (h : o + n ≤ o' ∨ o' + n' ≤ o) : Disjoint (rows o n) (rows o' n') := by
  refine Finset.disjoint_left.mpr fun i hi hi' => ?_
  rw [mem_rows] at hi hi'; omega

/-- A half's 256 rows from row `o` are its sixteen blocks, numbered by the devices `nb d`. -/
theorem rows_blocks (d : Dev nD) (o : ℕ) : rows o 256 = Finset.univ.biUnion fun j : Fin 16 => rows (o + (grp (nb d j)).val * 16) 16 := by
  ext i
  simp only [Finset.mem_biUnion, Finset.mem_univ, true_and, mem_rows]
  constructor
  · intro hi
    obtain ⟨j, hj⟩ := grp_nb_surj d ⟨((i 0).val - o) / 16, by omega⟩
    refine ⟨j, ?_⟩
    rw [hj]; dsimp only; omega
  · rintro ⟨j, hj⟩
    have := (grp (nb d j)).isLt; omega
theorem blocks_disjoint (d : Dev nD) (o : ℕ) (j j' : Fin 16) (h : j ≠ j') :
    Disjoint (rows (o + (grp (nb d j)).val * 16) 16) (rows (o + (grp (nb d j')).val * 16) 16) := by
  have h' : (grp (nb d j)).val ≠ (grp (nb d j')).val := fun e => h (grp_nb_inj d j j' (Fin.ext e))
  exact rows_disjoint (by omega)

end Cert.Htp
-- ==== Proof.K.Sched.lean ====
/-
What each semaphore hands over: the contents of every block that travels, and the schedule of signals and copies.
-/
module

public import proofs.«01_k».proof.Proof.K.Mesh
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev sCell (c : Dev nD) (x : X) : GSem nD τ sig := ((c : Thread nD τ), .dma (sSem x.ix))
abbrev rCell (c : Dev nD) (x : X) : GSem nD τ sig := ((c : Thread nD τ), .dma (rSem x.ix))

/-- The credit of a copy: the exchange with the sibling moves 256 rows, every other copy 16. -/
def amt : X → ℕ
  | .s0 => (dst0 : Memref sig .tc .vmem S256x768 .bf16).view.dmaCredit
  | _ => (slc rM ![0, 0] (by decide) : Memref sig .tc .vmem S16x768 .bf16).view.dmaCredit
theorem amt_pos (x : X) : 0 < amt x := by cases x <;> exact View.dmaCredit_pos _ (by decide)

/-! ## Contents -/

/-- A device's staged inputs: `x` and its blocks of the four weights. -/
def xs (c : Dev nD) : Vec F S512x768 .bf16 := (win0_0.blk (0 : Fin 1)).view.read (Elt F) ((s₀ m ρ).mem ((c : Thread nD τ).loc main_arg0))
def wq (c : Dev nD) : Vec F S768x512 .bf16 := (win0_1.blk (0 : Fin 1)).view.read (Elt F) ((s₀ m ρ).mem ((c : Thread nD τ).loc main_arg1))
def wo (c : Dev nD) : Vec F S512x768 .bf16 := (win0_2.blk (0 : Fin 1)).view.read (Elt F) ((s₀ m ρ).mem ((c : Thread nD τ).loc main_arg4))
def wk (c : Dev nD) : Vec F S768x512 .bf16 := (win0_3.blk (0 : Fin 1)).view.read (Elt F) ((s₀ m ρ).mem ((c : Thread nD τ).loc main_arg2))
def wv (c : Dev nD) : Vec F S768x512 .bf16 := (win0_4.blk (0 : Fin 1)).view.read (Elt F) ((s₀ m ρ).mem ((c : Thread nD τ).loc main_arg3))

/-- The rows of `x` of the batch sent away, and of the batch kept. -/
def xA (c : Dev nD) : Vec F S256x768 .bf16 := xM.view.readAt (Elt F) (rct2 (k0_off1 c) (k0_off1_inb c)).toLoadRect (xs m ρ c)
def xB (c : Dev nD) : Vec F S256x768 .bf16 := xM.view.readAt (Elt F) (rct2 (k0_off2 c) (k0_off2_inb c)).toLoadRect (xs m ρ c)
/-- The two batches' partial outputs. -/
def pA (c : Dev nD) : FVec F S256x768 .f32 := k0_pay16 (batchA (wq m ρ c) (wk m ρ c) (wv m ρ c) (wo m ρ c) (xA m ρ c))
def pB (c : Dev nD) : FVec F S256x768 .f32 := batchB (wq m ρ c) (wk m ρ c) (wv m ρ c) (wo m ρ c) (xB m ρ c)
/-- What a device sends its sibling. -/
def top (c : Dev nD) : FVec F S256x768 .bf16 := k0_pay17 (pA m ρ c)
/-- The kept batch with the sibling's partial output added, and as it goes into the send buffer. -/
def acc (c : Dev nD) : FVec F S256x768 .f32 := k0_pay34 (pB m ρ c) (top m ρ (sib c))
def bot (c : Dev nD) : FVec F S256x768 .bf16 := k0_pay35 (pB m ρ c) (top m ρ (sib c))

/-- The send buffer. -/
def SENDF (c : Dev nD) : Vec F S512x768 .bf16 := fun i =>
  if (i 0).val < 256 then up (n := 256) (by decide) (top m ρ c) 0 i else up (n := 256) (by decide) (bot m ρ c) 256 i
/-- The receive buffer: the sibling's first 256 rows, then a slot per device of the half, from that device's send buffer. -/
def RECVF (c : Dev nD) : Vec F S512x768 .bf16 := fun i =>
  if (i 0).val < 256 then SENDF m ρ (sib c) i
  else SENDF m ρ (devOf (half c) (((i 0).val - 256) / 16)) (mk (n := 512) ⟨256 + (grp c).val * 16 + (i 0).val % 16, by have := (grp c).isLt; omega⟩ (i 1))
/-- The accumulator's kept rows. -/
def ACCF (c : Dev nD) : Vec F S512x768 .f32 := up (n := 256) (by decide) (acc m ρ c) (t8 c)
/-- The fifteen received blocks, their sum, the device's own block, and the block of the result it makes. -/
def recvd (c : Dev nD) (j : Fin 15) : Vec F S16x768 .bf16 := rM.view.readAt (Elt F) (rct (o5 c j) (k0_off5_inb c j)).toLoadRect (RECVF m ρ c)
def ownB (c : Dev nD) : Vec F S16x768 .f32 := accM.view.readAt (Elt F) (rct (k0_off6 c) (k0_off6_inb c)).toLoadRect (ACCF m ρ c)
def made (c : Dev nD) : FVec F S16x768 .bf16 := k0_pay40 (sum15 (recvd m ρ c)) (ownB m ρ c)
/-- The gathered buffer, the same on every device. -/
def AGF : Vec F S512x768 .bf16 := fun i => up (n := 16) (by decide) (made m ρ (devOf ((i 0).val / 256) ((i 0).val % 256 / 16))) 0 i
/-- The result. -/
def outA (c : Dev nD) : FVec F S256x768 .f32 := k0_pay1 (gM.view.readAt (Elt F) (rct2 (k0_off1 c) (k0_off1_inb c)).toLoadRect (AGF m ρ))
def outB (c : Dev nD) : FVec F S256x768 .f32 := k0_pay41 (gM.view.readAt (Elt F) (rct2 (k0_off2 c) (k0_off2_inb c)).toLoadRect (AGF m ρ))
def OUTF (c : Dev nD) : Vec F S512x768 .f32 := fun i =>
  if (i 0).val / 256 = half c then up (n := 256) (by decide) (outB m ρ c) (t8 c) i else up (n := 256) (by decide) (outA m ρ c) (256 - t8 c) i

/-! ## Memory -/

/-- What is left of a full share after `n` halvings, and the half given away at each. -/
def kept : ℕ → PosShare TreeShare
  | 0 => fullShare
  | n + 1 => (kept n).left
def lent (n : ℕ) : PosShare TreeShare := (kept n).right

section Mem
variable (c : Dev nD) (I : Finset S512x768.Idx) (q : PosShare TreeShare)

def sPt (f : Vec F S512x768 .bf16) : sProp 𝕄 := (c : Thread nD τ).loc cc0_scratch1 ↦[I]{q} f
def rPt (f : Vec F S512x768 .bf16) : sProp 𝕄 := (c : Thread nD τ).loc cc0_scratch2 ↦[I]{q} f
def gPt (f : Vec F S512x768 .bf16) : sProp 𝕄 := (c : Thread nD τ).loc cc0_scratch3 ↦[I]{q} f

omit [FloatOps F] in
instance sPt_storable (f) : BI.Storable (upEmb : UEmb _ 𝕄) (sPt (F := F) c I q f) := by unfold sPt; infer_instance
omit [FloatOps F] in
instance rPt_storable (f) : BI.Storable (upEmb : UEmb _ 𝕄) (rPt (F := F) c I q f) := by unfold rPt; infer_instance
omit [FloatOps F] in
instance gPt_storable (f) : BI.Storable (upEmb : UEmb _ 𝕄) (gPt (F := F) c I q f) := by unfold gPt; infer_instance
end Mem

/-- The source of a device's copy, at the share lent to it and its contents. -/
def srcAt (c : Dev nD) : X → sProp 𝕄
  | .s0 => sPt c (rows 0 256) fullShare (SENDF m ρ c)
  | .rs j => sPt c (slot (peer c j)) fullShare (SENDF m ρ c)
  | .ag j => gPt c (blk c) (lent (j.val + 1)) (AGF m ρ)
  | .pc j => gPt c (blk (nb c j)) (lent 0) (AGF m ρ)
/-- The destination of a copy received by a device, at given contents. -/
def dstAt (c : Dev nD) (f : Vec F S512x768 .bf16) : X → sProp 𝕄
  | .s0 => rPt c (rows 0 256) fullShare f
  | .rs j => rPt c (slot (peer c j)) fullShare f
  | .ag j => gPt c (blk (peer c j)) fullShare f
  | .pc j => gPt c (blk (nb (sib c) j)) fullShare f
/-- What the destination holds once received. -/
def landF (c : Dev nD) : X → Vec F S512x768 .bf16
  | .s0 => RECVF m ρ c
  | .rs _ => RECVF m ρ c
  | .ag _ => AGF m ρ
  | .pc _ => AGF m ρ
/-- A destination before the copy: any contents. -/
def room (c : Dev nD) (x : X) : sProp 𝕄 := iprop(∃ f, dstAt c f x)

/-- The destinations a barrier signal hands over. -/
def xsOf (k : Fin 16) : List X := if h : k.val < 15 then [.rs ⟨k.val, h⟩, .ag ⟨k.val, h⟩] else .s0 :: l16.map .pc

def barPay (c : Dev nD) (k : Fin 16) : sProp 𝕄 := bigSepL (xsOf k) fun x => room (sp c k) x
def recvPay (c : Dev nD) (x : X) : sProp 𝕄 := dstAt c (landF m ρ c x) x

omit [FloatOps F] in
instance dstAt_storable (c : Dev nD) (f) (x : X) : BI.Storable (upEmb : UEmb _ 𝕄) (dstAt (F := F) c f x) := by
  cases x <;> (unfold dstAt; infer_instance)
instance srcAt_storable (c : Dev nD) (x : X) : BI.Storable (upEmb : UEmb _ 𝕄) (srcAt (F := F) m ρ c x) := by
  cases x <;> (unfold srcAt; infer_instance)
omit [FloatOps F] in
instance room_storable (c : Dev nD) (x : X) : BI.Storable (upEmb : UEmb _ 𝕄) (room (F := F) c x) := by unfold room; infer_instance
omit [FloatOps F] in
theorem bigSepL_storable {α : Type} (l : List α) (Φ : α → sProp 𝕄) [∀ a, BI.Storable (upEmb : UEmb _ 𝕄) (Φ a)] :
    BI.Storable (upEmb : UEmb _ 𝕄) (bigSepL l Φ) := by
  induction l with
  | nil => show BI.Storable _ (iprop(emp) : sProp 𝕄); infer_instance
  | cons a l ih => rw [bigSepL_cons']; infer_instance
omit [FloatOps F] in
instance barPay_storable (c : Dev nD) (k : Fin 16) : BI.Storable (upEmb : UEmb _ 𝕄) (barPay (F := F) c k) := by
  unfold barPay; exact bigSepL_storable _ _
instance recvPay_storable (c : Dev nD) (x : X) : BI.Storable (upEmb : UEmb _ 𝕄) (recvPay (F := F) m ρ c x) := by unfold recvPay; infer_instance

/-! ## The schedule -/

/-- The units one signal or copy adds to a semaphore. -/
def smAmt : SemLoc sig → ℕ
  | .reg _ => 1
  | .dma q => match role q with
    | .snd x => amt x
    | .rcv x => amt x
    | .other => 1
theorem smAmt_pos (sm : SemLoc sig) : 0 < smAmt sm := by
  cases sm with
  | reg _ => exact Nat.one_pos
  | dma q =>
    unfold smAmt; dsimp only
    cases role q
    · exact amt_pos _
    · exact amt_pos _
    · exact Nat.one_pos
theorem smAmt_s (x : X) : smAmt (.dma (sSem x.ix)) = amt x := by unfold smAmt; dsimp only; rw [role_s]
theorem smAmt_r (x : X) : smAmt (.dma (rSem x.ix)) = amt x := by unfold smAmt; dsimp only; rw [role_r]

/-- One round. A barrier cell has sixteen duties of one unit, duty `k` paid by `sp c k`; a send or receive cell the one duty `0` of the
    copy's credit. -/
def Rd : Rounds.Schedule (GSem nD τ sig) (Fin 16) 𝕄 where
  duties g r := if r = 0 ∧ g.1.2 = .tc then
      match g.2 with
      | .reg _ => Finset.univ
      | .dma q => if role q = .other then ∅ else {0}
    else ∅
  unitless _ := False
  amount g _ _ := smAmt g.2
  payload g _ d := match g.2 with
    | .reg _ => barPay g.1.1 d
    | .dma q => match role q with
      | .snd x => srcAt m ρ g.1.1 x
      | .rcv x => recvPay m ρ g.1.1 x
      | .other => iprop(emp)
  amount_pos g _ _ _ := smAmt_pos g.2

instance Rd_payload_storable (g : GSem nD τ sig) (r : ℕ) (d : Fin 16) : BI.Storable (upEmb : UEmb _ 𝕄) ((Rd (F := F) m ρ).payload g r d) := by
  dsimp only [Rd]
  split
  · infer_instance
  · split <;> infer_instance

section Sched
variable (c : Dev nD) (x : X)

theorem duties_bar : (Rd (F := F) m ρ).duties (barCell c) 0 = Finset.univ := by dsimp only [Rd]; exact if_pos ⟨rfl, rfl⟩
theorem duties_s : (Rd (F := F) m ρ).duties (sCell c x) 0 = {0} := by
  dsimp only [Rd]; rw [if_pos ⟨rfl, rfl⟩, role_s]; exact if_neg (fun h => by cases h)
theorem duties_r : (Rd (F := F) m ρ).duties (rCell c x) 0 = {0} := by
  dsimp only [Rd]; rw [if_pos ⟨rfl, rfl⟩, role_r]; exact if_neg (fun h => by cases h)
theorem duties_later (g : GSem nD τ sig) : ∀ r, 1 ≤ r → (Rd (F := F) m ρ).duties g r = ∅ :=
  fun r hr => by dsimp only [Rd]; rw [if_neg fun h => by omega]
theorem amount_bar (d : Fin 16) : (Rd (F := F) m ρ).amount (barCell c) 0 d = 1 := rfl
theorem amount_s (d : Fin 16) : (Rd (F := F) m ρ).amount (sCell c x) 0 d = amt x := smAmt_s x
theorem amount_r (d : Fin 16) : (Rd (F := F) m ρ).amount (rCell c x) 0 d = amt x := smAmt_r x
theorem payload_bar (d : Fin 16) : (Rd (F := F) m ρ).payload (barCell c) 0 d = barPay c d := rfl
theorem payload_s (d : Fin 16) : (Rd (F := F) m ρ).payload (sCell c x) 0 d = srcAt m ρ c x := by dsimp only [Rd]; rw [role_s]
theorem payload_r (d : Fin 16) : (Rd (F := F) m ρ).payload (rCell c x) 0 d = recvPay m ρ c x := by dsimp only [Rd]; rw [role_r]
theorem expect_bar : (Rd (F := F) m ρ).expect (barCell c) 0 = 16 := by
  unfold Schedule.expect Schedule.amountOf
  rw [duties_bar, Finset.sum_congr rfl fun d _ => amount_bar m ρ c d]; rfl
theorem expect_s : (Rd (F := F) m ρ).expect (sCell c x) 0 = amt x := by
  unfold Schedule.expect Schedule.amountOf; rw [duties_s, Finset.sum_singleton, amount_s]
theorem expect_r : (Rd (F := F) m ρ).expect (rCell c x) 0 = amt x := by
  unfold Schedule.expect Schedule.amountOf; rw [duties_r, Finset.sum_singleton, amount_r]
theorem rest_bar : bigSep ((Rd (F := F) m ρ).duties (barCell c) 0 \ ∅) (fun d => (Rd (F := F) m ρ).payload (barCell c) 0 d) = bigSepL l16 (barPay c) := by
  rw [Finset.sdiff_empty, duties_bar, bigSep_univ_eq_bigSepL l16 (by decide) (by decide)]; rfl
theorem rest_s : bigSep ((Rd (F := F) m ρ).duties (sCell c x) 0 \ ∅) (fun d => (Rd (F := F) m ρ).payload (sCell c x) 0 d) = srcAt m ρ c x := by
  rw [Finset.sdiff_empty, duties_s, bigSep_singleton, payload_s]
theorem rest_r : bigSep ((Rd (F := F) m ρ).duties (rCell c x) 0 \ ∅) (fun d => (Rd (F := F) m ρ).payload (rCell c x) 0 d) = recvPay m ρ c x := by
  rw [Finset.sdiff_empty, duties_r, bigSep_singleton, payload_r]
end Sched

/-! ## What a device owes, in the order it pays; the levels -/

/-- A payment: a barrier signal or a copy. -/
abbrev Y : Type := Fin 16 ⊕ X
def yCell (c : Dev nD) : Y → GSem nD τ sig
  | .inl k => barCell (sp c k)
  | .inr x => rCell (tgt c x) x
def yAmt : Y → ℕ
  | .inl _ => 1
  | .inr x => amt x
def owedL (c : Dev nD) : List Y → CellTallies nD τ sig Unit
  | [] => 0
  | y :: l => owedL c l + tallyAt (yCell c y) () (yAmt y)

/-- The copies in program order, each phase's after it. -/
def yPc : List Y := l15.map fun j => .inr (.pc j.succ)
def yAg : List Y := .inr (.pc 0) :: (l15.map (fun j => .inr (.ag j)) ++ yPc)
def yRs : List Y := l15.map (fun j => .inr (.rs j)) ++ yAg
def yX : List Y := .inr .s0 :: yRs
def yAll : List Y := l16.map .inl ++ yX

def L (g : GSem nD τ sig) : Finset Unit := if g.1.2 = .tc then {()} else ∅
def xLv : X → ℕ
  | .s0 => 2 | .rs _ => 3 | .ag _ => 4 | .pc _ => 5
def smLv : SemLoc sig → ℕ
  | .reg _ => 1
  | .dma q => match role q with
    | .rcv x => xLv x
    | _ => 0
def lv (g : GSem nD τ sig) (_ : Unit) : ℕ := smLv g.2
def yLv : Y → ℕ
  | .inl _ => 1
  | .inr x => xLv x

theorem L_of_ne (g : GSem nD τ sig) (h : g.1.2 ≠ .tc) : L g = ∅ := if_neg h
theorem L_tc (c : Dev nD) (sm : SemLoc sig) : L ((c : Thread nD τ), sm) = {()} := if_pos rfl
theorem lv_y (c : Dev nD) (y : Y) (u : Unit) : lv (yCell c y) u = yLv y := by
  cases y with
  | inl k => rfl
  | inr x => show smLv (.dma (rSem x.ix)) = xLv x; unfold smLv; dsimp only; rw [role_r]
theorem L_y (c : Dev nD) (y : Y) : L (yCell c y) = {()} := by cases y <;> rfl
theorem smLv_s (x : X) : smLv (.dma (sSem x.ix)) = 0 := by unfold smLv; dsimp only; rw [role_s]
theorem smLv_r (x : X) : smLv (.dma (rSem x.ix)) = xLv x := by unfold smLv; dsimp only; rw [role_r]

theorem owedL_pos {c : Dev nD} {l : List Y} {g : GSem nD τ sig} {u : Unit} (h : 0 < owedL c l g u) : ∃ y ∈ l, g = yCell c y := by
  induction l with
  | nil => exact absurd h (Nat.lt_irrefl 0)
  | cons y l ih =>
    unfold owedL at h
    rw [Pi.add_apply, Finsupp.add_apply, tallyAt_apply] at h
    by_cases hg : g = yCell c y
    · exact ⟨y, List.mem_cons_self, hg⟩
    · rw [if_neg (fun h' => hg h'.1), Nat.add_zero] at h
      obtain ⟨y', hy', he⟩ := ih h
      exact ⟨y', List.mem_cons_of_mem _ hy', he⟩

omit [FloatOps F] in
/-- A device may wait on a cell below everything it still owes. -/
theorem mayWait (c : Dev nD) (sm : SemLoc sig) (l : List Y) (h : ∀ y ∈ l, smLv sm < yLv y) :
    (levAts L lv : sProp 𝕄) ⊢ MayWait (c : Thread nD τ) sm () (owedL c l) :=
  MayOwe.of_cut (L := L) (lev := lv) (smLv sm) (fun p hp => by rw [Finset.mem_singleton.mp hp, L_tc]; exact Finset.mem_singleton_self _)
    (fun g u hg => by obtain ⟨y, -, rfl⟩ := owedL_pos hg; rw [L_y]; exact Finset.mem_singleton_self _)
    (fun p hp => by rw [Finset.mem_singleton.mp hp]; exact Nat.le_refl _)
    (fun g u hg => by obtain ⟨y, hy, rfl⟩ := owedL_pos hg; rw [lv_y]; exact h y hy)

end Cert.Htp

end
-- ==== Proof.K.Steps.lean ====
/-
One rule per communication step: a barrier signal, a copy, and the two waits of a copy.
-/
module

public import proofs.«01_k».proof.Proof.K.Sched

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A device's cells: the barrier, the send cells, the receive cells. -/
abbrev Ck : Type := Option (X ⊕ X)
def csem : Ck → SemLoc sig
  | none => .reg barS
  | some (.inl x) => .dma (sSem x.ix)
  | some (.inr x) => .dma (rSem x.ix)
abbrev kcell (p : Dev nD × Ck) : GSem nD τ sig := ((p.1 : Thread nD τ), csem p.2)

/-- Every cell's invariant, and that every cell has reached round 0. -/
def records (K : Dev nD × Ck → ℕ) : sProp 𝕄 :=
  iprop((bigSep Finset.univ fun p : Dev nD × Ck => cellInv ER (Rd m ρ) (K p) (kcell p))
    ∗ bigSep Finset.univ fun p : Dev nD × Ck => reached ER (kcell p) 0)
instance records_persistent (K : Dev nD × Ck → ℕ) : BI.Persistent (records m ρ K) := by unfold records; infer_instance

theorem inv_at (K : Dev nD × Ck → ℕ) (p : Dev nD × Ck) : records m ρ K ⊢ cellInv ER (Rd m ρ) (K p) (kcell p) := by
  unfold records
  iintro ⟨H, -⟩
  iapply (show (bigSep Finset.univ fun p : Dev nD × Ck => (cellInv ER (Rd m ρ) (K p) (kcell p) : sProp 𝕄)) ⊢ cellInv ER (Rd m ρ) (K p) (kcell p) from
    bigSep_elim (Finset.mem_univ p))
  iexact H
theorem reached_at (K : Dev nD × Ck → ℕ) (p : Dev nD × Ck) : records m ρ K ⊢ reached ER (kcell p) 0 := by
  unfold records
  iintro ⟨-, H⟩
  iapply (show (bigSep Finset.univ fun p : Dev nD × Ck => (reached ER (kcell p) 0 : sProp 𝕄)) ⊢ reached ER (kcell p) 0 from
    bigSep_elim (Finset.mem_univ p))
  iexact H

/-- What every device's body holds throughout. -/
def ctx (K : Dev nD × Ck → ℕ) : sProp 𝕄 := iprop(records m ρ K ∗ levAts L lv)
instance ctx_persistent (K : Dev nD × Ck → ℕ) : BI.Persistent (ctx m ρ K) := by unfold ctx; infer_instance

/-- What a device still owes, whatever it has waited on. -/
def owesE (c : Dev nD) (l : List Y) : sProp 𝕄 := iprop(∃ W, owes (c : Thread nD τ) (owedL c l) W)

abbrev wpB (c : Dev nD) {α : Type} (p : P F α) (Q : α → sProp 𝕄) : sProp 𝕄 :=
  wp frame (wpE (defs₀ (F := F)) 𝒱₀ (c : Thread nD τ) none) Set.univ p Q

section Steps
variable (K : Dev nD × Ck → ℕ) (c : Dev nD)

theorem step_signal {α : Type} (Q : α → sProp 𝕄) (kont : P F α) (k : Fin 16) (l : List Y) :
    iprop(ctx m ρ K ∗ owesE c (.inl k :: l) ∗ dutyTok ER (barCell (sp c k)) 0 k ∗ barPay (sp c k) k ∗ (owesE c l -∗ wpB c kont Q))
      ⊢ wpB c (sig1 c k >>= fun _ => kont) Q := by
  unfold ctx owesE sig1
  rw [sigDev_eq]
  simp only [semSignalWord, Prog.lift, Prog.bind_op, Prog.bind_ret]
  iintro ⟨⟨#Hr, #Hl⟩, ⟨%W, HO⟩, Ht, Hp, Hk⟩
  iapply (Rounds.wp_signal 𝒱₀ ER (Rd m ρ) (c : Thread nD τ) none (dst := (sp c k : Thread nD τ)) (κ := K (sp c k, none))
      (d := k) (by rw [duties_bar]; exact Finset.mem_univ _) ((amount_bar m ρ (sp c k) k).trans (by decide)) () (owedL c l) rfl)
    $$ [HO Ht Hp]
  · isplitr; · iapply (inv_at m ρ K (sp c k, none)); iexact Hr
    isplitl [HO]; · iexact HO
    isplitl [Ht]; · iexact Ht
    isplitl [Hp]; · rw [payload_bar]; iexact Hp
    iapply (reached_at m ρ K (sp c k, none)); iexact Hr
  iintro HO
  iapply Hk
  iexists W; iexact HO

/-- A copy of a block held at any share to room held on the target. -/
theorem step_copy {α : Type} (Q : α → sProp 𝕄) (kont : P F α) (x : X) (l : List Y) {s : Shape} (src dst : Memref sig .tc .vmem s .bf16) (h1 : src.view.WordExact) (h2 : dst.view.WordExact)
    (h3 : dst.view.ref.isScScratch = false) (q : PosShare TreeShare) (fs : Buf (Elt F) (src.view.loc (c : Thread nD τ)))
    (fd : Buf (Elt F) (dst.view.loc (tgt c x : Thread nD τ))) (t : Dev nD) (ht : t = tgt c x)
    (hN : dst.view.dmaCredit = amt x)
    (hpay₁ : (src.view.loc (c : Thread nD τ) ↦[src.view.set]{q} fs : sProp 𝕄) ⊢ srcAt m ρ c x)
    (hpay₂ : (dst.view.loc (tgt c x : Thread nD τ) ↦[dst.view.set]{fullShare} (dst.view.write (Elt F) fd (src.view.read (Elt F) fs) Finset.univ) : sProp 𝕄)
      ⊢ recvPay m ρ (tgt c x) x) :
    iprop(ctx m ρ K ∗ owesE c (.inr x :: l) ∗ dutyTok ER (sCell c x) 0 0 ∗ dutyTok ER (rCell (tgt c x) x) 0 0
        ∗ (dst.view.loc (tgt c x : Thread nD τ) ↦[dst.view.set]{fullShare} fd)
        ∗ (src.view.loc (c : Thread nD τ) ↦[src.view.set]{q} fs)
        ∗ ((owesE c l ∗ cred (tallyAt (sCell c x) () (amt x))) -∗ wpB c kont Q))
      ⊢ wpB c (copy src dst t x.ix h1 h2 h3 >>= fun _ => kont) Q := by
  subst ht
  unfold ctx owesE copy
  simp only [Prog.lift, Prog.bind_op, Prog.bind_ret]
  iintro ⟨⟨#Hr, #Hl⟩, ⟨%W, HO⟩, Ht1, Ht2, Hd, Hs, Hk⟩
  iapply (Rounds.wp_send_pointsTo 𝒱₀ ER (Rd m ρ) (c : Thread nD τ) none (sS := .dma (sSem x.ix)) (sem := .dma (rSem x.ix)) (κ₁ := K (c, some (.inl x))) (κ₂ := K (tgt c x, some (.inr x)))
    (r₁ := 0) (r₂ := 0) (d₁ := 0) (d₂ := 0) (fd := fd)
    (by rw [duties_s]; exact Finset.mem_singleton_self _) (by rw [duties_r]; exact Finset.mem_singleton_self _)
    () () (amt x) hN (amount_s m ρ c x 0) (amount_r m ρ (tgt c x) x 0) (owedL c l) rfl (W := W)
    (by rw [payload_s]; exact hpay₁) (by rw [payload_r]; exact hpay₂)) $$ [HO Ht1 Ht2 Hd Hs]
  · isplitr; · iapply (inv_at m ρ K (c, some (.inl x))); iexact Hr
    isplitr; · iapply (inv_at m ρ K (tgt c x, some (.inr x))); iexact Hr
    isplitl [Hs]; · iexact Hs
    isplitl [Hd]; · iexact Hd
    isplitl [HO]; · iexact HO
    isplitl [Ht1]; · iexact Ht1
    isplitr; · iapply (reached_at m ρ K (c, some (.inl x))); iexact Hr
    isplitl [Ht2]; · iexact Ht2
    iapply (reached_at m ρ K (tgt c x, some (.inr x))); iexact Hr
  iintro ⟨Hc, HO⟩
  iapply Hk
  isplitl [HO]
  · iexists W; iexact HO
  iexact Hc

theorem step_waitSend {α : Type} (Q : α → sProp 𝕄) (kont : P F α) (x : X) (l : List Y) {s : Shape} (src dst : Memref sig .tc .vmem s .bf16) (h1 : src.view.WordExact) (h2 : dst.view.WordExact)
    (hN : src.view.dmaCredit = amt x) (hl : ∀ y ∈ l, 0 < yLv y) :
    iprop(ctx m ρ K ∗ owesE c l ∗ cred (tallyAt (sCell c x) () (amt x)) ∗ atPos ER (sCell c x) 0 ∅ 0
        ∗ ((owesE c l ∗ srcAt m ρ c x ∗ semVal (sCell c x) 0) -∗ wpB c kont Q))
      ⊢ wpB c (waitSend src dst x.ix h1 h2 >>= fun _ => kont) Q := by
  unfold ctx owesE waitSend
  simp only [Prog.lift, Prog.bind_op, Prog.bind_ret]
  iintro ⟨⟨#Hr, #Hl⟩, ⟨%W, HO⟩, Hc, Ha, Hk⟩
  ihave #Hi := (inv_at m ρ K (c, some (.inl x))) $$ Hr
  rw [← hN]
  iapply (Rounds.wp_wait_rest_token 𝒱₀ ER (Rd m ρ) (c : Thread nD τ) none (κ := K (c, some (.inl x)))
      (wpE_waitDma2_eq 𝒱₀ (c : Thread nD τ) none Set.univ) (Set.mem_univ _) () (O := owedL c l) (W := W) (R := 0) (m := 0) (T := ∅)
      (by rw [Nat.zero_add, expect_s, hN])) $$ [Hc HO Ha]
  · isplitr; · iexact Hi
    isplitl [Hc]; · iexact Hc
    isplitl [HO]; · iexact HO
    isplitr; · iapply (mayWait c (.dma (sSem x.ix)) l (fun y hy => by rw [smLv_s]; exact hl y hy)); iexact Hl
    iexact Ha
  iintro ⟨HO, Ha, -, Hp⟩
  ihave Hp := (Entails.of_eq (rest_s m ρ c x)) $$ Hp
  imod (Rounds.cell_close ER (Rd m ρ) (Set.mem_univ (K (c, some (.inl x)))) (fun h => h) (R := 0 + 1) (duties_later m ρ (sCell c x))) $$ [Ha] with Hz
  · isplitr; · iexact Hi
    iexact Ha
  iapply Hk
  isplitl [HO]
  · iexists _; iexact HO
  isplitl [Hp] <;> iassumption

theorem step_waitRecv {α : Type} (Q : α → sProp 𝕄) (kont : P F α) (x : X) (l : List Y) {s : Shape} (src dst : Memref sig .tc .vmem s .bf16) (h1 : src.view.WordExact) (h2 : dst.view.WordExact)
    (hN : dst.view.dmaCredit = amt x) (hl : ∀ y ∈ l, xLv x < yLv y) :
    iprop(ctx m ρ K ∗ owesE c l ∗ cred (tallyAt (rCell c x) () (amt x)) ∗ atPos ER (rCell c x) 0 ∅ 0
        ∗ ((owesE c l ∗ recvPay m ρ c x ∗ semVal (rCell c x) 0) -∗ wpB c kont Q))
      ⊢ wpB c (waitRecv src dst x.ix h1 h2 >>= fun _ => kont) Q := by
  unfold ctx owesE waitRecv
  simp only [Prog.lift, Prog.bind_op, Prog.bind_ret]
  iintro ⟨⟨#Hr, #Hl⟩, ⟨%W, HO⟩, Hc, Ha, Hk⟩
  ihave #Hi := (inv_at m ρ K (c, some (.inr x))) $$ Hr
  rw [← hN]
  iapply (Rounds.wp_wait_rest_token 𝒱₀ ER (Rd m ρ) (c : Thread nD τ) none (κ := K (c, some (.inr x)))
      (wpE_waitDma2_eq 𝒱₀ (c : Thread nD τ) none Set.univ) (Set.mem_univ _) () (O := owedL c l) (W := W) (R := 0) (m := 0) (T := ∅)
      (by rw [Nat.zero_add, expect_r, hN])) $$ [Hc HO Ha]
  · isplitr; · iexact Hi
    isplitl [Hc]; · iexact Hc
    isplitl [HO]; · iexact HO
    isplitr; · iapply (mayWait c (.dma (rSem x.ix)) l (fun y hy => by rw [smLv_r]; exact hl y hy)); iexact Hl
    iexact Ha
  iintro ⟨HO, Ha, -, Hp⟩
  ihave Hp := (Entails.of_eq (rest_r m ρ c x)) $$ Hp
  imod (Rounds.cell_close ER (Rd m ρ) (Set.mem_univ (K (c, some (.inr x)))) (fun h => h) (R := 0 + 1) (duties_later m ρ (rCell c x))) $$ [Ha] with Hz
  · isplitr; · iexact Hi
    iexact Ha
  iapply Hk
  isplitl [HO]
  · iexists _; iexact HO
  isplitl [Hp] <;> iassumption

/-- The barrier wait: the sixteen signals' room. -/
theorem step_barrier {α : Type} (Q : α → sProp 𝕄) (kont : P F α) (l : List Y) (hl : ∀ y ∈ l, 1 < yLv y) :
    iprop(ctx m ρ K ∗ owesE c l ∗ cred (tallyAt (barCell c) () 16) ∗ atPos ER (barCell c) 0 ∅ 0
        ∗ ((owesE c l ∗ bigSepL l16 (barPay c) ∗ semVal (barCell c) 0) -∗ wpB c kont Q))
      ⊢ wpB c (semWaitWord barS 16#32 >>= fun _ => kont) Q := by
  unfold ctx owesE
  simp only [semWaitWord, Prog.lift, Prog.bind_op, Prog.bind_ret]
  iintro ⟨⟨#Hr, #Hl⟩, ⟨%W, HO⟩, Hc, Ha, Hk⟩
  ihave #Hi := (inv_at m ρ K (c, none)) $$ Hr
  iapply (Rounds.wp_wait_rest_token 𝒱₀ ER (Rd m ρ) (c : Thread nD τ) none (κ := K (c, none))
      (wpE_semWait_eq 𝒱₀ (c : Thread nD τ) none Set.univ) (Set.mem_univ _) () (O := owedL c l) (W := W) (R := 0) (m := 0) (T := ∅)
      (by rw [expect_bar]; decide)) $$ [Hc HO Ha]
  · isplitr; · iexact Hi
    isplitl [Hc]; · iexact Hc
    isplitl [HO]; · iexact HO
    isplitr; · iapply (mayWait c (.reg barS) l hl); iexact Hl
    iexact Ha
  iintro ⟨HO, Ha, -, Hp⟩
  ihave Hp := (Entails.of_eq (rest_bar m ρ c)) $$ Hp
  imod (Rounds.cell_close ER (Rd m ρ) (Set.mem_univ (K (c, none))) (fun h => h) (R := 0 + 1) (duties_later m ρ (barCell c))) $$ [Ha] with Hz
  · isplitr; · iexact Hi
    iexact Ha
  iapply Hk
  isplitl [HO]
  · iexists _; iexact HO
  isplitl [Hp] <;> iassumption

end Steps

/-! ## A run of steps over a list -/

/-- A step for each element: what each takes, what each leaves, and the state by the elements to come. -/
theorem each_rule {β α : Type} (c : Dev nD) (f : β → P F PUnit) (S : List β → sProp 𝕄) (Φ Ψ : β → sProp 𝕄)
    (h : ∀ (a : β) (l : List β) (Q : α → sProp 𝕄) (k : P F α), iprop(S (a :: l) ∗ Φ a ∗ ((S l ∗ Ψ a) -∗ wpB c k Q)) ⊢ wpB c (f a >>= fun _ => k) Q)
    (l : List β) (Q : α → sProp 𝕄) (k : P F α) :
    iprop(S l ∗ bigSepL l Φ ∗ ((S [] ∗ bigSepL l Ψ) -∗ wpB c k Q)) ⊢ wpB c (each f l k) Q := by
  induction l with
  | nil =>
    unfold each
    simp only [bigSepL_nil]
    iintro ⟨HS, He, Hk⟩
    iapply Hk
    isplitl [HS]; · iexact HS
    iexact He
  | cons a l ih =>
    unfold each
    rw [bigSepL_cons', bigSepL_cons']
    iintro ⟨HS, ⟨Ha, Hl⟩, Hk⟩
    iapply (h a l Q _)
    isplitl [HS]; · iexact HS
    isplitl [Ha]; · iexact Ha
    iintro ⟨HS, Hb⟩
    iapply ih
    isplitl [HS]; · iexact HS
    isplitl [Hl]; · iexact Hl
    iintro ⟨HS, Hl⟩
    iapply Hk
    isplitl [HS]; · iexact HS
    isplitl [Hb] <;> iassumption

end Cert.Htp

end
-- ==== Proof.K.Moves.lean ====
/-
The kernel's copies one by one: each fits its semaphores' schedule, its block landing with the contents the receiver expects.
-/
module

public import proofs.«01_k».proof.Proof.K.Steps

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Element sets and credits -/

theorem src0_set : src0.view.set = rows 0 256 := (View.set_slice_whole cc0_scratch1 _).trans (set_unit (n := 256) _ rfl)
theorem dst0_set : dst0.view.set = rows 0 256 := (View.set_slice_whole cc0_scratch2 _).trans (set_unit (n := 256) _ rfl)
theorem srcR_set (c : Dev nD) (j : Fin 15) : (srcR c j).view.set = slot (peer c j) :=
  (View.set_slice_whole cc0_scratch1 _).trans (set_unit (n := 16) _ (off4_eq c j))
theorem dstR_set (c : Dev nD) : (dstR c).view.set = slot c := (View.set_slice_whole cc0_scratch2 _).trans (set_unit (n := 16) _ (off3_eq c))
theorem own_set (c : Dev nD) : (own c).view.set = blk c := (View.set_slice_whole cc0_scratch3 _).trans (set_unit (n := 16) _ (off7_eq c))
theorem fwd_set (c : Dev nD) (j : Fin 15) : (fwd c j).view.set = blk (peer c j) :=
  (View.set_slice_whole cc0_scratch3 _).trans (set_unit (n := 16) _ (off8_eq c j))

theorem src0_cr : src0.view.dmaCredit = amt .s0 := rfl
theorem srcR_cr (c : Dev nD) (j : Fin 15) : (srcR c j).view.dmaCredit = amt (.rs j) := rfl
theorem dstR_cr (c : Dev nD) (j : Fin 15) : (dstR c).view.dmaCredit = amt (.rs j) := rfl
theorem own_cr (c : Dev nD) (j : Fin 15) : (own c).view.dmaCredit = amt (.ag j) := rfl
theorem own_cr' (c : Dev nD) (j : Fin 16) : (own c).view.dmaCredit = amt (.pc j) := rfl
theorem fwd_cr (c : Dev nD) (j : Fin 15) (k : Fin 16) : (fwd c j).view.dmaCredit = amt (.pc k) := rfl

theorem yLv_pos (y : Y) : 0 < yLv y := by
  rcases y with k | x
  · exact Nat.one_pos
  · show 0 < xLv x
    cases x <;> exact Nat.succ_pos _

/-! ## What lands -/

/-- The sibling receives the sender's first 256 rows. -/
theorem land_s0 (c : Dev nD) (fd : Vec F S512x768 .bf16) (i : S512x768.Idx) (hi : i ∈ rows 0 256) :
    dst0.view.write (Elt F) fd (src0.view.read (Elt F) (SENDF m ρ c)) Finset.univ i = RECVF m ρ (sib c) i := by
  obtain ⟨j, rfl⟩ := exists_emb (n := 256) inb_S512x768_S256x768_0_0 rfl hi
  refine (View.write_emb_of_mem (v := dst0.view) (Val := Elt F) fd _ (Finset.mem_univ j)).trans ?_
  show SENDF m ρ c _ = _
  have h := (mem_rows.mp hi).2
  unfold RECVF
  rw [if_pos (by omega), sib_sib]
  rfl

/-- A peer receives, in the sender's slot, the block of the sender's second 256 rows meant for it. -/
theorem land_rs (c : Dev nD) (j : Fin 15) (fd : Vec F S512x768 .bf16) (i : S512x768.Idx) (hi : i ∈ slot c) :
    (dstR c).view.write (Elt F) fd ((srcR c j).view.read (Elt F) (SENDF m ρ c)) Finset.univ i = RECVF m ρ (peer c j) i := by
  obtain ⟨k, rfl⟩ := exists_emb (n := 16) (k0_off3_inb c) (off3_eq c) hi
  refine (View.write_emb_of_mem (v := (dstR c).view) (Val := Elt F) fd _ (Finset.mem_univ k)).trans ?_
  show SENDF m ρ c ((rct (o4 c j) (k0_off4_inb c j)).emb k) = RECVF m ρ (peer c j) _
  obtain ⟨h0, h1⟩ := emb_unit (n := 16) (k0_off3_inb c) (off3_eq c) k
  obtain ⟨e0, e1⟩ := emb_unit (n := 16) (k0_off4_inb c j) (off4_eq c j) k
  have hk : (k 0).val < 16 := (k 0).isLt
  have hg := (grp c).isLt
  have hg' := (grp (peer c j)).isLt
  unfold RECVF
  rw [if_neg (by rw [h0]; omega)]
  have hd : ∀ n : ℕ, n = 256 + (grp c).val * 16 + (k 0).val → devOf (half (peer c j)) ((n - 256) / 16) = c := by
    intro n hn
    rw [hn, half_peer, show (256 + (grp c).val * 16 + (k 0).val - 256) / 16 = (grp c).val by omega, devOf_half_grp]
  rw [hd _ h0, h1]
  refine congrArg (SENDF m ρ c) ?_
  rw [← mk_eta (n := 512) ((rct (o4 c j) (k0_off4_inb c j)).emb k)]
  refine congrArg₂ mk (Fin.ext ?_) ?_
  · refine e0.trans ?_
    show _ = 256 + (grp (peer c j)).val * 16 + _ % 16
    rw [h0]; omega
  · exact e1

section Sends
variable (K : Dev nD × Ck → ℕ) (c : Dev nD)

/-- A copy that fits the schedule: its tokens, room on the target and its source; afterwards the credit to wait for its source. -/
theorem step_fit {α : Type} (Q : α → sProp 𝕄) (kont : P F α) (x : X) (l : List Y) {s : Shape} (src dst : Memref sig .tc .vmem s .bf16)
    (h1 : src.view.WordExact) (h2 : dst.view.WordExact) (h3 : dst.view.ref.isScScratch = false) (q : PosShare TreeShare)
    (fs : Buf (Elt F) (src.view.loc (c : Thread nD τ))) (t : Dev nD) (ht : t = tgt c x) (hN : dst.view.dmaCredit = amt x)
    (hsrc : srcAt m ρ c x = (src.view.loc (c : Thread nD τ) ↦[src.view.set]{q} fs : sProp 𝕄))
    (cast : Vec F S512x768 .bf16 → Buf (Elt F) (dst.view.loc (tgt c x : Thread nD τ)))
    (hdst : ∀ fd, dstAt (tgt c x) fd x = (dst.view.loc (tgt c x : Thread nD τ) ↦[dst.view.set]{fullShare} (cast fd) : sProp 𝕄))
    (hland : ∀ fd, ∀ i ∈ dst.view.set, dst.view.write (Elt F) (cast fd) (src.view.read (Elt F) fs) Finset.univ i = cast (landF m ρ (tgt c x) x) i) :
    iprop(ctx m ρ K ∗ owesE c (.inr x :: l) ∗ dutyTok ER (sCell c x) 0 0 ∗ dutyTok ER (rCell (tgt c x) x) 0 0
        ∗ room (tgt c x) x ∗ srcAt m ρ c x
        ∗ ((owesE c l ∗ cred (tallyAt (sCell c x) () (amt x))) -∗ wpB c kont Q))
      ⊢ wpB c (copy src dst t x.ix h1 h2 h3 >>= fun _ => kont) Q := by
  unfold room
  iintro ⟨Hc, HO, Ht1, Ht2, ⟨%fd, Hd⟩, Hs, Hk⟩
  ihave Hd := (Entails.of_eq (hdst fd)) $$ Hd
  ihave Hs := (Entails.of_eq hsrc) $$ Hs
  iapply (step_copy m ρ K c Q kont x l src dst h1 h2 h3 q fs (cast fd) t ht hN (Entails.of_eq hsrc.symm)
    (Entails.of_eq ((pointsTo_congr (hland fd)).trans (hdst _).symm)))
  isplitl [Hc]; · iexact Hc
  isplitl [HO]; · iexact HO
  isplitl [Ht1]; · iexact Ht1
  isplitl [Ht2]; · iexact Ht2
  isplitl [Hd]; · iexact Hd
  isplitl [Hs]; · iexact Hs
  iexact Hk

theorem land_same {M : Memref sig .tc .vmem S16x768 .bf16} (fd fs : M.view.ty.shape.Idx → Elt F M.view.ty.elt)
    (i : M.view.ty.shape.Idx) (hi : i ∈ M.view.set) :
    M.view.write (Elt F) fd (M.view.read (Elt F) fs) Finset.univ i = fs i := by
  rw [View.write_read_eq_piecewise, View.setOn_univ]
  unfold Finset.piecewise
  split
  · rfl
  · contradiction

theorem step_send {α : Type} (Q : α → sProp 𝕄) (kont : P F α) (x : X) (l : List Y) :
    iprop(ctx m ρ K ∗ owesE c (.inr x :: l) ∗ dutyTok ER (sCell c x) 0 0 ∗ dutyTok ER (rCell (tgt c x) x) 0 0
        ∗ room (tgt c x) x ∗ srcAt m ρ c x
        ∗ ((owesE c l ∗ cred (tallyAt (sCell c x) () (amt x))) -∗ wpB c kont Q))
      ⊢ wpB c (send c x >>= fun _ => kont) Q := by
  match x with
  | .s0 =>
    exact step_fit m ρ K c Q kont .s0 l src0 dst0 src0_we dst0_we rfl fullShare (SENDF m ρ c) _ (s0Dev_eq c) rfl
      (by rw [src0_set]; rfl) id (fun fd => by rw [dst0_set]; rfl) (fun fd => by rw [dst0_set]; exact land_s0 m ρ c fd)
  | .rs j =>
    exact step_fit m ρ K c Q kont (.rs j) l (srcR c j) (dstR c) (srcR_we c j) (dstR_we c) rfl fullShare (SENDF m ρ c) _ (rsDev_eq c j) rfl
      (by rw [srcR_set]; rfl) id
      (fun fd => by rw [dstR_set]; show rPt (peer c j) (slot (peer (peer c j) j)) fullShare fd = _; rw [peer_peer]; rfl)
      (fun fd => by rw [dstR_set]; exact land_rs m ρ c j fd)
  | .ag j =>
    exact step_fit m ρ K c Q kont (.ag j) l (own c) (own c) (own_we c) (own_we c) rfl (lent (j.val + 1)) (AGF m ρ) _ (agDev_eq c j) rfl
      (by rw [own_set]; rfl) id
      (fun fd => by rw [own_set]; show gPt (peer c j) (blk (peer (peer c j) j)) fullShare fd = _; rw [peer_peer]; rfl)
      (fun fd => land_same (M := own c) fd (AGF m ρ))
  | .pc ⟨0, h⟩ =>
    exact step_fit m ρ K c Q kont (.pc ⟨0, h⟩) l (own c) (own c) (own_we c) (own_we c) rfl (lent 0) (AGF m ρ) _ (pcDev_eq c ⟨0, h⟩) rfl
      (by rw [own_set]; show gPt c (blk (nb c 0)) (lent 0) _ = _; rw [nb_zero]; rfl) id
      (fun fd => by rw [own_set]; show gPt (sib c) (blk (nb (sib (sib c)) 0)) fullShare fd = _; rw [sib_sib, nb_zero]; rfl)
      (fun fd => land_same (M := own c) fd (AGF m ρ))
  | .pc ⟨j + 1, h⟩ =>
    exact step_fit m ρ K c Q kont (.pc ⟨j + 1, h⟩) l (fwd c ⟨j, by omega⟩) (fwd c ⟨j, by omega⟩) (fwd_we c _) (fwd_we c _) rfl (lent 0) (AGF m ρ) _
      (pcDev_eq c ⟨j + 1, h⟩) rfl
      (by rw [fwd_set]; show gPt c (blk (nb c (⟨j, by omega⟩ : Fin 15).succ)) (lent 0) _ = _; rw [nb_succ]; rfl) id
      (fun fd => by
        rw [fwd_set]; show gPt (sib c) (blk (nb (sib (sib c)) (⟨j, by omega⟩ : Fin 15).succ)) fullShare fd = _; rw [sib_sib, nb_succ]; rfl)
      (fun fd => land_same (M := fwd c ⟨j, by omega⟩) fd (AGF m ρ))

/-- The wait for a copy's source, which comes back. -/
theorem step_wSend {α : Type} (Q : α → sProp 𝕄) (kont : P F α) (x : X) (l : List Y) :
    iprop(ctx m ρ K ∗ owesE c l ∗ cred (tallyAt (sCell c x) () (amt x)) ∗ atPos ER (sCell c x) 0 ∅ 0
        ∗ ((owesE c l ∗ srcAt m ρ c x ∗ semVal (sCell c x) 0) -∗ wpB c kont Q))
      ⊢ wpB c (wSend c x >>= fun _ => kont) Q := by
  match x with
  | .s0 => exact step_waitSend m ρ K c Q kont .s0 l src0 dst0 src0_we dst0_we rfl fun y _ => yLv_pos y
  | .rs j => exact step_waitSend m ρ K c Q kont (.rs j) l (srcR c j) (dstR c) (srcR_we c j) (dstR_we c) rfl fun y _ => yLv_pos y
  | .ag j => exact step_waitSend m ρ K c Q kont (.ag j) l (own c) (own c) (own_we c) (own_we c) rfl fun y _ => yLv_pos y
  | .pc ⟨0, h⟩ => exact step_waitSend m ρ K c Q kont (.pc ⟨0, h⟩) l (own c) (own c) (own_we c) (own_we c) rfl fun y _ => yLv_pos y
  | .pc ⟨j + 1, h⟩ => exact step_waitSend m ρ K c Q kont (.pc ⟨j + 1, h⟩) l (fwd c ⟨j, by omega⟩) (fwd c ⟨j, by omega⟩) (fwd_we c _) (fwd_we c _) rfl fun y _ => yLv_pos y

/-- The wait for a copy received, allowed below everything still owed. -/
theorem step_wRecv {α : Type} (Q : α → sProp 𝕄) (kont : P F α) (x : X) (l : List Y) (hl : ∀ y ∈ l, xLv x < yLv y) :
    iprop(ctx m ρ K ∗ owesE c l ∗ cred (tallyAt (rCell c x) () (amt x)) ∗ atPos ER (rCell c x) 0 ∅ 0
        ∗ ((owesE c l ∗ recvPay m ρ c x ∗ semVal (rCell c x) 0) -∗ wpB c kont Q))
      ⊢ wpB c (wRecv c x >>= fun _ => kont) Q := by
  match x with
  | .s0 => exact step_waitRecv m ρ K c Q kont .s0 l src0 dst0 src0_we dst0_we rfl hl
  | .rs j => exact step_waitRecv m ρ K c Q kont (.rs j) l (srcR c j) (dstR c) (srcR_we c j) (dstR_we c) rfl hl
  | .ag j => exact step_waitRecv m ρ K c Q kont (.ag j) l (own c) (own c) (own_we c) (own_we c) rfl hl
  | .pc ⟨0, h⟩ => exact step_waitRecv m ρ K c Q kont (.pc ⟨0, h⟩) l (own c) (own c) (own_we c) (own_we c) rfl hl
  | .pc ⟨j + 1, h⟩ => exact step_waitRecv m ρ K c Q kont (.pc ⟨j + 1, h⟩) l (fwd c ⟨j, by omega⟩) (fwd c ⟨j, by omega⟩) (fwd_we c _) (fwd_we c _) rfl hl

end Sends

end Cert.Htp

end
-- ==== Proof.K.Mem.lean ====
/-
The buffers cut into the blocks that travel, shares of a block, and the loads and stores.
-/
module

public import proofs.«01_k».proof.Proof.K.Moves

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chains -/

omit [FloatOps F] in
/-- A chain of pairs is the pair of the chains. -/
theorem chain_sep {β : Type} (l : List β) (Φ Ψ : β → sProp (MT nD τ sig Unit (Elt F) ℕ UU ℕ)) :
    bigSepL l (fun a => iprop(Φ a ∗ Ψ a)) = iprop(bigSepL l Φ ∗ bigSepL l Ψ) := by
  induction l with
  | nil => exact (equiv_iff.mp emp_sep).symm
  | cons a l ih =>
    rw [bigSepL_cons', bigSepL_cons', bigSepL_cons', ih]
    apply BI.Entails.antisymm
    · show iprop((Φ a ∗ Ψ a) ∗ bigSepL l Φ ∗ bigSepL l Ψ) ⊢ iprop((Φ a ∗ bigSepL l Φ) ∗ Ψ a ∗ bigSepL l Ψ)
      iintro ⟨⟨H1, H2⟩, H3, H4⟩
      isplitl [H1 H3]
      · isplitl [H1] <;> iassumption
      · isplitl [H2] <;> iassumption
    · show iprop((Φ a ∗ bigSepL l Φ) ∗ Ψ a ∗ bigSepL l Ψ) ⊢ iprop((Φ a ∗ Ψ a) ∗ bigSepL l Φ ∗ bigSepL l Ψ)
      iintro ⟨⟨H1, H3⟩, H2, H4⟩
      isplitl [H1 H2]
      · isplitl [H1] <;> iassumption
      · isplitl [H3] <;> iassumption

omit [FloatOps F] in
/-- Sixteen members are the first and the fifteen after it. -/
theorem chain16 (Φ : Fin 16 → sProp (MT nD τ sig Unit (Elt F) ℕ UU ℕ)) :
    bigSepL l16 Φ = iprop(Φ 0 ∗ bigSepL l15 fun j => Φ j.succ) := by
  rw [← bigSepL_map Fin.succ l15 Φ, ← bigSepL_cons']; rfl

omit [FloatOps F] in
/-- Sixteen members are the fifteen before the last and the last. -/
theorem chain16' (Φ : Fin 16 → sProp (MT nD τ sig Unit (Elt F) ℕ UU ℕ)) :
    bigSepL l16 Φ = iprop((bigSepL l15 fun j => Φ j.castSucc) ∗ Φ 15) := by
  rw [← bigSepL_map Fin.castSucc l15 Φ, ← bigSepL_singleton (15 : Fin 16) Φ, ← bigSepL_append]; rfl

/-! ## Regions -/

/-- An assertion about element sets that splits along disjoint unions. -/
structure Splits (K : Finset S512x768.Idx → sProp (MT nD τ sig Unit (Elt F) ℕ UU ℕ)) : Prop where
  none : K ∅ = iprop(emp)
  union : ∀ I J, Disjoint I J → K (I ∪ J) = iprop(K I ∗ K J)

omit [FloatOps F] in
theorem Splits.family {K : Finset S512x768.Idx → sProp (MT nD τ sig Unit (Elt F) ℕ UU ℕ)} (hK : Splits K) {n : ℕ} (l : List (Fin n))
    (hl : l.Nodup) (hu : ∀ i, i ∈ l) (f : Fin n → Finset S512x768.Idx) (hf : ∀ i j, i ≠ j → Disjoint (f i) (f j)) :
    K (Finset.univ.biUnion f) = bigSepL l fun i => K (f i) := by
  have h : ∀ l : List (Fin n), l.Nodup → K (l.toFinset.biUnion f) = bigSepL l fun i => K (f i) := by
    intro l
    induction l with
    | nil => intro _; exact hK.none
    | cons a l ih =>
      intro hn
      rw [List.nodup_cons] at hn
      rw [bigSepL_cons', ← ih hn.2, List.toFinset_cons, Finset.biUnion_insert]
      refine hK.union _ _ ((Finset.disjoint_biUnion_right _ _ _).mpr fun b hb => hf a b fun e => hn.1 ?_)
      rw [e]; exact List.mem_toFinset.mp hb
  rw [← h l hl]
  congr 1
  ext i
  simp [hu]

/-- The fifteen peers' slots. -/
def slots (c : Dev nD) : Finset S512x768.Idx := Finset.univ.biUnion fun j : Fin 15 => slot (peer c j)

theorem slot_nb_disjoint (c : Dev nD) (j j' : Fin 16) (h : j ≠ j') : Disjoint (slot (nb c j)) (slot (nb c j')) := blocks_disjoint c 256 j j' h
theorem blk_eq (c : Dev nD) (j : Fin 16) : blk (nb c j) = rows (t8 c + (grp (nb c j)).val * 16) 16 := by
  unfold blk myb t8; rw [half_nb]
theorem half_or (c : Dev nD) : (t8 c = 0 ∧ t8 (sib c) = 256) ∨ (t8 c = 256 ∧ t8 (sib c) = 0) := by
  unfold t8; rw [half_sib]; have := half_lt c; omega
theorem halves_disjoint (c : Dev nD) : Disjoint (rows (t8 c) 256) (rows (t8 (sib c)) 256) :=
  rows_disjoint (by have := half_or c; omega)
theorem halves_union (c : Dev nD) : rows (t8 c) 256 ∪ rows (t8 (sib c)) 256 = Finset.univ := by
  ext i
  have h := lt512 i
  have h' := half_or c
  simp only [Finset.mem_union, mem_rows, Finset.mem_univ, iff_true]
  omega
theorem tb_disjoint : Disjoint (rows 0 256) (rows 256 256) := rows_disjoint (Or.inl (Nat.le_refl _))
theorem tb_union : rows 0 256 ∪ rows 256 256 = Finset.univ := by
  ext i
  have h := lt512 i
  simp only [Finset.mem_union, mem_rows, Finset.mem_univ, iff_true]
  omega

section
variable {K : Finset S512x768.Idx → sProp (MT nD τ sig Unit (Elt F) ℕ UU ℕ)} (hK : Splits K) (c : Dev nD)
include hK
omit [FloatOps F]

theorem Splits.slots_eq : K (slots c) = bigSepL l15 fun j => K (slot (peer c j)) := by
  refine hK.family l15 (by decide) (by decide) (fun j => slot (peer c j)) fun j j' h => ?_
  rw [← nb_succ, ← nb_succ]
  exact slot_nb_disjoint c _ _ fun e => h (Fin.succ_injective _ e)
theorem Splits.bottom : K (rows 256 256) = iprop(K (slot c) ∗ bigSepL l15 fun j => K (slot (peer c j))) := by
  rw [rows_blocks c 256, hK.family l16 (by decide) (by decide) (fun j => rows (256 + (grp (nb c j)).val * 16) 16) (blocks_disjoint c 256), chain16,
    nb_zero]
  simp only [nb_succ]
theorem Splits.whole : K Finset.univ = iprop(K (rows 0 256) ∗ K (rows 256 256)) := by
  rw [← hK.union _ _ tb_disjoint, tb_union]
theorem Splits.halves : K Finset.univ = iprop(K (rows (t8 c) 256) ∗ K (rows (t8 (sib c)) 256)) := by
  rw [← hK.union _ _ (halves_disjoint c), halves_union]
theorem Splits.half : K (rows (t8 c) 256) = bigSepL l16 fun j => K (blk (nb c j)) := by
  rw [rows_blocks c (t8 c), hK.family l16 (by decide) (by decide) (fun j => rows (t8 c + (grp (nb c j)).val * 16) 16) (blocks_disjoint c (t8 c))]
  simp only [blk_eq]
theorem Splits.half' : K (rows (t8 c) 256) = iprop(K (blk c) ∗ bigSepL l15 fun j => K (blk (peer c j))) := by
  rw [hK.half c, chain16, nb_zero]
  simp only [nb_succ]
end

section
variable (c : Dev nD) (q : PosShare TreeShare) (f : Vec F S512x768 .bf16)
omit [FloatOps F]
theorem sPt_splits : Splits fun I => sPt (F := F) c I q f :=
  ⟨by unfold sPt; exact pointsTo_empty, fun I J h => by unfold sPt; exact (pointsTo_union h).1.antisymm (pointsTo_union h).2⟩
theorem rPt_splits : Splits fun I => rPt (F := F) c I q f :=
  ⟨by unfold rPt; exact pointsTo_empty, fun I J h => by unfold rPt; exact (pointsTo_union h).1.antisymm (pointsTo_union h).2⟩
theorem gPt_splits : Splits fun I => gPt (F := F) c I q f :=
  ⟨by unfold gPt; exact pointsTo_empty, fun I J h => by unfold gPt; exact (pointsTo_union h).1.antisymm (pointsTo_union h).2⟩

variable (I : Finset S512x768.Idx)
theorem gPt_halve (n : ℕ) : gPt (F := F) c I (kept n) f = iprop(gPt c I (kept (n + 1)) f ∗ gPt c I (lent n) f) := by
  unfold gPt; exact (pointsTo_share (PosShare.mem_left_op_right (kept n))).1.antisymm (pointsTo_share (PosShare.mem_left_op_right (kept n))).2
theorem gPt_range (n a : ℕ) : gPt (F := F) c I (kept a) f = iprop(gPt c I (kept (a + n)) f ∗ bigSepL (List.range' a n) fun i => gPt c I (lent i) f) := by
  induction n generalizing a with
  | zero => exact (equiv_iff.mp sep_emp).symm
  | succ n ih =>
    rw [gPt_halve, ih (a + 1), List.range'_succ, bigSepL_cons', show a + 1 + n = a + (n + 1) by omega]
    apply BI.Entails.antisymm
    · show iprop((gPt c I (kept (a + (n + 1))) f ∗ bigSepL (List.range' (a + 1) n) fun i => gPt c I (lent i) f) ∗ gPt c I (lent a) f)
        ⊢ (iprop(gPt c I (kept (a + (n + 1))) f ∗ gPt c I (lent a) f ∗ bigSepL (List.range' (a + 1) n) fun i => gPt c I (lent i) f) : sProp 𝕄)
      iintro ⟨⟨H1, H2⟩, H3⟩
      isplitl [H1]; · iexact H1
      isplitl [H3] <;> iassumption
    · show (iprop(gPt c I (kept (a + (n + 1))) f ∗ gPt c I (lent a) f ∗ bigSepL (List.range' (a + 1) n) fun i => gPt c I (lent i) f) : sProp 𝕄)
        ⊢ iprop((gPt c I (kept (a + (n + 1))) f ∗ bigSepL (List.range' (a + 1) n) fun i => gPt c I (lent i) f) ∗ gPt c I (lent a) f)
      iintro ⟨H1, H3, H2⟩
      isplitl [H1 H2]
      · isplitl [H1] <;> iassumption
      iexact H3
/-- What the fifteen copies of the own block borrow. -/
theorem gPt_lend : gPt (F := F) c I (kept 1) f = iprop(gPt c I (kept 16) f ∗ bigSepL l15 fun j => gPt c I (lent (j.val + 1)) f) := by
  rw [gPt_range c f I 15 1, show List.range' 1 15 = l15.map (fun j => j.val + 1) by decide, bigSepL_map]
end

/-! ## Loads and stores -/

section
variable (c : Dev nD)

theorem step_ld {α : Type} (Q : α → sProp 𝕄) {s : Shape} {e : EltTy} (M : Memref sig .tc .vmem s e) (r : LoadRect s) (hl : M.view.LoadsAt r)
    (kont : (r.shape.Idx → Elt F e) → P F α) (I : Finset (Idx (M.view.loc (c : Thread nD τ)))) (q : PosShare TreeShare) (f : Buf (Elt F) (M.view.loc (c : Thread nD τ)))
    (hI : M.view.setOn r.set ⊆ I) :
    iprop((M.view.loc (c : Thread nD τ) ↦[I]{q} f) ∗ ((M.view.loc (c : Thread nD τ) ↦[I]{q} f) -∗ wpB c (kont (M.view.readAt (Elt F) r f)) Q))
      ⊢ wpB c (Prog.lift (.load M r hl) >>= kont) Q := by
  simp only [Prog.lift, Prog.bind_op, Prog.bind_ret]
  iintro ⟨H, Hk⟩
  iapply (wp_load 𝒱₀ (c : Thread nD τ) none Set.univ (m := M) hI) $$ H
  iexact Hk

theorem step_st {α : Type} (Q : α → sProp 𝕄) {s : Shape} {e : EltTy} (M : Memref sig .tc .vmem s e) (r : Rect s) (w : r.shape.Idx → Elt F e)
    (hx : (M.access r).Stores Finset.univ) (hm : (Finset.univ : Finset r.shape.Idx) = Finset.univ ∨ ∀ a, r.stride a = 1)
    (kont : P F α) (I : Finset (Idx ((M.access r).loc (c : Thread nD τ)))) (f : Buf (Elt F) ((M.access r).loc (c : Thread nD τ)))
    (hI : (M.access r).set ⊆ I) :
    iprop(((M.access r).loc (c : Thread nD τ) ↦[I]{fullShare} f)
        ∗ (((M.access r).loc (c : Thread nD τ) ↦[I]{fullShare} ((M.access r).write (Elt F) f w Finset.univ)) -∗ wpB c kont Q))
      ⊢ wpB c (Prog.lift (.store M r w Finset.univ hx hm) >>= fun _ => kont) Q := by
  simp only [Prog.lift, Prog.bind_op, Prog.bind_ret]
  iintro ⟨H, Hk⟩
  iapply (wp_store 𝒱₀ (c : Thread nD τ) none Set.univ (m := M) (by rw [View.setOn_univ]; exact hI)) $$ H
  iexact Hk
end

end Cert.Htp

end
-- ==== Proof.K.Phases.lean ====
/-
The runs of signals, copies and waits of the kernel, each over its list; the room the barrier hands over, by copy.
-/
module

public import proofs.«01_k».proof.Proof.K.Mem

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each copy needs and leaves -/

/-- The two duty tokens a copy pays. -/
def tokR (c : Dev nD) (x : X) : sProp 𝕄 := iprop(dutyTok ER (sCell c x) 0 0 ∗ dutyTok ER (rCell (tgt c x) x) 0 0)
/-- A device's positions at the copy's two cells of its own, with the credit to wait for what it receives. -/
def posR (c : Dev nD) (x : X) : sProp 𝕄 :=
  iprop(atPos ER (sCell c x) 0 ∅ 0 ∗ atPos ER (rCell c x) 0 ∅ 0 ∗ cred (tallyAt (rCell c x) () (amt x)))
/-- The two counters at zero again. -/
def endR (c : Dev nD) (x : X) : sProp 𝕄 := iprop(semVal (sCell c x) 0 ∗ semVal (rCell c x) 0)
/-- The credit to wait for the copy's source. -/
def credS (c : Dev nD) (x : X) : sProp 𝕄 := cred (tallyAt (sCell c x) () (amt x))

/-! ## Room -/

omit [FloatOps F] in
/-- The copies by the signal that makes room for them. -/
theorem bar_chain (Φ : Fin 16 → X → sProp (MT nD τ sig Unit (Elt F) ℕ UU ℕ)) :
    bigSepL l16 (fun k => bigSepL (xsOf k) (Φ k))
      = iprop(((bigSepL l15 fun j => Φ j.castSucc (.rs j)) ∗ bigSepL l15 fun j => Φ j.castSucc (.ag j))
          ∗ Φ 15 .s0 ∗ bigSepL l16 fun j => Φ 15 (.pc j)) := by
  have h : ∀ j : Fin 15, bigSepL (xsOf j.castSucc) (Φ j.castSucc) = iprop(Φ j.castSucc (.rs j) ∗ Φ j.castSucc (.ag j)) := by
    intro j
    have : xsOf j.castSucc = [.rs j, .ag j] := by unfold xsOf; rw [dif_pos (show j.castSucc.val < 15 from j.isLt)]; rfl
    rw [this, bigSepL_cons', bigSepL_singleton]
  have h' : xsOf 15 = .s0 :: l16.map .pc := rfl
  rw [chain16', h', bigSepL_cons' X.s0, bigSepL_map]
  simp only [h]
  rw [chain_sep]

/-- All the room a device makes, for the copies it receives. -/
def roomAll (t : X → Dev nD) : sProp 𝕄 :=
  iprop(((bigSepL l15 fun j => room (t (.rs j)) (.rs j)) ∗ bigSepL l15 fun j => room (t (.ag j)) (.ag j))
    ∗ room (t .s0) .s0 ∗ bigSepL l16 fun j => room (t (.pc j)) (.pc j))

omit [FloatOps F] in
theorem room_give (c : Dev nD) : bigSepL l16 (fun k => barPay (F := F) (sp c k) k) = roomAll fun _ => c := by
  unfold barPay
  simp only [sp_sp]
  exact bar_chain fun _ x => room c x
omit [FloatOps F] in
theorem room_got (c : Dev nD) : bigSepL l16 (fun k => barPay (F := F) c k) = roomAll (tgt c) := by
  unfold barPay
  rw [bar_chain fun k x => room (sp c k) x]
  unfold roomAll
  have h : ∀ j : Fin 15, sp c j.castSucc = peer c j := fun j => by unfold sp; rw [dif_pos (show j.castSucc.val < 15 from j.isLt)]; rfl
  have h' : sp c 15 = sib c := rfl
  simp only [h, h']
  rfl

section Phases
variable (K : Dev nD × Ck → ℕ) (c : Dev nD)

/-! ## The runs -/

/-- The sixteen signals. -/
theorem ph_signals {α : Type} (Q : α → sProp 𝕄) (k : P F α) :
    iprop(ctx m ρ K ∗ owesE c yAll ∗ (bigSepL l16 fun k => dutyTok ER (barCell (sp c k)) 0 k) ∗ roomAll (fun _ => c)
        ∗ (owesE c yX -∗ wpB c k Q))
      ⊢ wpB c (each (sig1 c) l16 k) Q := by
  iintro ⟨#Hc, HO, Ht, Hr, Hk⟩
  ihave Hr := (Entails.of_eq (room_give c).symm) $$ Hr
  iapply (each_rule c (sig1 c) (fun l => iprop(ctx m ρ K ∗ owesE c (l.map .inl ++ yX)))
    (fun k => iprop(dutyTok ER (barCell (sp c k)) 0 k ∗ barPay (sp c k) k)) (fun _ => iprop(emp))
    (fun a l Q k => by
      iintro ⟨⟨#Hc, HO⟩, ⟨Ht, Hp⟩, Hk⟩
      iapply (step_signal m ρ K c Q k a (l.map .inl ++ yX))
      isplitr; · iexact Hc
      isplitl [HO]; · iexact HO
      isplitl [Ht]; · iexact Ht
      isplitl [Hp]; · iexact Hp
      iintro HO
      iapply Hk
      isplitl [HO]
      · isplitr; · iexact Hc
        iexact HO
      iempintro) l16 Q k)
  isplitl [HO]
  · isplitr; · iexact Hc
    iexact HO
  isplitl [Ht Hr]
  · iapply (Entails.of_eq (chain_sep l16 (fun k => dutyTok ER (barCell (sp c k)) 0 k) (fun k => barPay (F := F) (sp c k) k)).symm)
    isplitl [Ht] <;> iassumption
  iintro ⟨⟨-, HO⟩, -⟩
  iapply Hk
  iexact HO

/-- A run of copies. -/
theorem ph_sends {α β : Type} (Q : α → sProp 𝕄) (k : P F α) (g : β → X) (l : List β) (rest : List Y) :
    iprop(ctx m ρ K ∗ owesE c (l.map (fun a => .inr (g a)) ++ rest) ∗ (bigSepL l fun a => tokR c (g a)) ∗ (bigSepL l fun a => room (tgt c (g a)) (g a))
        ∗ (bigSepL l fun a => srcAt m ρ c (g a))
        ∗ ((owesE c rest ∗ bigSepL l fun a => credS c (g a)) -∗ wpB c k Q))
      ⊢ wpB c (each (fun a => send c (g a)) l k) Q := by
  iintro ⟨#Hc, HO, Ht, Hr, Hs, Hk⟩
  iapply (each_rule c (fun a => send c (g a)) (fun l => iprop(ctx m ρ K ∗ owesE c (l.map (fun a => .inr (g a)) ++ rest)))
    (fun a => iprop(tokR c (g a) ∗ room (tgt c (g a)) (g a) ∗ srcAt m ρ c (g a))) (fun a => credS c (g a))
    (fun a l Q k => by
      unfold tokR
      iintro ⟨⟨#Hc, HO⟩, ⟨⟨Ht1, Ht2⟩, Hr, Hs⟩, Hk⟩
      iapply (step_send m ρ K c Q k (g a) (l.map (fun a => .inr (g a)) ++ rest))
      isplitr; · iexact Hc
      isplitl [HO]; · iexact HO
      isplitl [Ht1]; · iexact Ht1
      isplitl [Ht2]; · iexact Ht2
      isplitl [Hr]; · iexact Hr
      isplitl [Hs]; · iexact Hs
      iintro ⟨HO, Hcr⟩
      iapply Hk
      isplitl [HO]
      · isplitr; · iexact Hc
        iexact HO
      unfold credS; iexact Hcr) l Q k)
  isplitl [HO]
  · isplitr; · iexact Hc
    iexact HO
  isplitl [Ht Hr Hs]
  · iapply (Entails.of_eq (chain_sep l (fun a => tokR (F := F) c (g a)) (fun a => iprop(room (tgt c (g a)) (g a) ∗ srcAt m ρ c (g a)))).symm)
    isplitl [Ht]; · iexact Ht
    iapply (Entails.of_eq (chain_sep l (fun a => room (F := F) (tgt c (g a)) (g a)) (fun a => srcAt m ρ c (g a))).symm)
    isplitl [Hr] <;> iassumption
  iintro ⟨⟨-, HO⟩, Hcr⟩
  iapply Hk
  isplitl [HO]; · iexact HO
  iexact Hcr

/-- A copy waited for, at both ends. -/
theorem step_waits {α : Type} (Q : α → sProp 𝕄) (k : P F α) (x : X) (l : List Y) (hl : ∀ y ∈ l, xLv x < yLv y) :
    iprop(ctx m ρ K ∗ owesE c l ∗ credS c x ∗ posR c x ∗ ((owesE c l ∗ srcAt m ρ c x ∗ recvPay m ρ c x ∗ endR c x) -∗ wpB c k Q))
      ⊢ wpB c (wSend c x >>= fun _ => wRecv c x >>= fun _ => k) Q := by
  unfold credS posR endR
  iintro ⟨#Hc, HO, Hcs, ⟨Ha1, Ha2, Hcr⟩, Hk⟩
  iapply (step_wSend m ρ K c Q _ x l)
  isplitr; · iexact Hc
  isplitl [HO]; · iexact HO
  isplitl [Hcs]; · iexact Hcs
  isplitl [Ha1]; · iexact Ha1
  iintro ⟨HO, Hs, Hz1⟩
  iapply (step_wRecv m ρ K c Q k x l hl)
  isplitr; · iexact Hc
  isplitl [HO]; · iexact HO
  isplitl [Hcr]; · iexact Hcr
  isplitl [Ha2]; · iexact Ha2
  iintro ⟨HO, Hp, Hz2⟩
  iapply Hk
  isplitl [HO]; · iexact HO
  isplitl [Hs]; · iexact Hs
  isplitl [Hp]; · iexact Hp
  isplitl [Hz1] <;> iassumption

/-- A run of waits. -/
theorem ph_waits {α β : Type} (Q : α → sProp 𝕄) (k : P F α) (g : β → X) (l : List β) (rest : List Y) (hl : ∀ a, ∀ y ∈ rest, xLv (g a) < yLv y) :
    iprop(ctx m ρ K ∗ owesE c rest ∗ (bigSepL l fun a => credS c (g a)) ∗ (bigSepL l fun a => posR c (g a))
        ∗ ((owesE c rest ∗ (bigSepL l fun a => srcAt m ρ c (g a)) ∗ (bigSepL l fun a => recvPay m ρ c (g a)) ∗ (bigSepL l fun a => endR c (g a))) -∗ wpB c k Q))
      ⊢ wpB c (each (fun a => (wSend c (g a) >>= fun _ => wRecv c (g a) : P F PUnit)) l k) Q := by
  iintro ⟨#Hc, HO, Hcs, Hp, Hk⟩
  iapply (each_rule c (fun a => (wSend c (g a) >>= fun _ => wRecv c (g a) : P F PUnit)) (fun _ => iprop(ctx m ρ K ∗ owesE c rest))
    (fun a => iprop(credS c (g a) ∗ posR c (g a))) (fun a => iprop(srcAt m ρ c (g a) ∗ recvPay m ρ c (g a) ∗ endR c (g a)))
    (fun a l Q k => by
      rw [Prog.bind_assoc]
      iintro ⟨⟨#Hc, HO⟩, ⟨Hcs, Hp⟩, Hk⟩
      iapply (step_waits m ρ K c Q k (g a) rest (hl a))
      isplitr; · iexact Hc
      isplitl [HO]; · iexact HO
      isplitl [Hcs]; · iexact Hcs
      isplitl [Hp]; · iexact Hp
      iintro ⟨HO, Hr⟩
      iapply Hk
      isplitl [HO]
      · isplitr; · iexact Hc
        iexact HO
      iexact Hr) l Q k)
  isplitl [HO]
  · isplitr; · iexact Hc
    iexact HO
  isplitl [Hcs Hp]
  · iapply (Entails.of_eq (chain_sep l (fun a => credS (F := F) c (g a)) (fun a => posR c (g a))).symm)
    isplitl [Hcs] <;> iassumption
  iintro ⟨⟨-, HO⟩, Hr⟩
  iapply Hk
  isplitl [HO]; · iexact HO
  ihave Hr := (Entails.of_eq (chain_sep l (fun a => srcAt m ρ c (g a)) (fun a => iprop(recvPay m ρ c (g a) ∗ endR c (g a))))) $$ Hr
  icases Hr with ⟨Hs, Hr⟩
  ihave Hr := (Entails.of_eq (chain_sep l (fun a => recvPay m ρ c (g a)) (fun a => endR c (g a)))) $$ Hr
  icases Hr with ⟨Hr, He⟩
  isplitl [Hs]; · iexact Hs
  isplitl [Hr] <;> iassumption

/-- The run that waits for each gathered block and forwards it to the sibling, half of the block's share lent to that copy. -/
theorem ph_forward {α : Type} (Q : α → sProp 𝕄) (k : P F α) :
    iprop(ctx m ρ K ∗ owesE c yPc ∗ (bigSepL l15 fun j => credS c (.ag j)) ∗ (bigSepL l15 fun j => posR c (.ag j))
        ∗ (bigSepL l15 fun j : Fin 15 => tokR c (.pc j.succ)) ∗ (bigSepL l15 fun j : Fin 15 => room (tgt c (.pc j.succ)) (.pc j.succ))
        ∗ ((owesE c [] ∗ (bigSepL l15 fun j => srcAt m ρ c (.ag j)) ∗ (bigSepL l15 fun j => gPt c (blk (peer c j)) (kept 1) (AGF m ρ))
            ∗ (bigSepL l15 fun j => endR c (.ag j)) ∗ (bigSepL l15 fun j : Fin 15 => credS c (.pc j.succ))) -∗ wpB c k Q))
      ⊢ wpB c (each (fun j : Fin 15 => (wSend c (.ag j) >>= fun _ => wRecv c (.ag j) >>= fun _ => send c (.pc j.succ) : P F PUnit)) l15 k) Q := by
  iintro ⟨#Hc, HO, Hcs, Hp, Ht, Hr, Hk⟩
  iapply (each_rule c (fun j : Fin 15 => (wSend c (.ag j) >>= fun _ => wRecv c (.ag j) >>= fun _ => send c (.pc j.succ) : P F PUnit))
    (fun l => iprop(ctx m ρ K ∗ owesE c (l.map fun j : Fin 15 => .inr (.pc j.succ))))
    (fun j => iprop(credS c (.ag j) ∗ posR c (.ag j) ∗ tokR c (.pc j.succ) ∗ room (tgt c (.pc j.succ)) (.pc j.succ)))
    (fun j => iprop(srcAt m ρ c (.ag j) ∗ gPt c (blk (peer c j)) (kept 1) (AGF m ρ) ∗ endR c (.ag j) ∗ credS c (.pc j.succ)))
    (fun j l Q k => by
      simp only [Prog.bind_assoc]
      iintro ⟨⟨#Hc, HO⟩, ⟨Hcs, Hp, Ht, Hr⟩, Hk⟩
      iapply (step_waits m ρ K c Q _ (.ag j) ((j :: l).map fun j : Fin 15 => .inr (.pc j.succ)) (fun y hy => by
        obtain ⟨i, -, rfl⟩ := List.mem_map.mp hy
        exact (Nat.lt_succ_self 4 : 4 < 5)))
      isplitr; · iexact Hc
      isplitl [HO]; · iexact HO
      isplitl [Hcs]; · iexact Hcs
      isplitl [Hp]; · iexact Hp
      iintro ⟨HO, Hs, Hb, He⟩
      ihave Hb := (Entails.of_eq ((show recvPay m ρ c (.ag j) = gPt c (blk (peer c j)) (kept 0) (AGF m ρ) from rfl).trans <| gPt_halve c (AGF m ρ) (blk (peer c j)) 0)) $$ Hb
      icases Hb with ⟨Hb, Hb'⟩
      unfold tokR
      icases Ht with ⟨Ht1, Ht2⟩
      iapply (step_send m ρ K c Q k (.pc j.succ) (l.map fun j : Fin 15 => .inr (.pc j.succ)))
      isplitr; · iexact Hc
      isplitl [HO]; · iexact HO
      isplitl [Ht1]; · iexact Ht1
      isplitl [Ht2]; · iexact Ht2
      isplitl [Hr]; · iexact Hr
      isplitl [Hb']
      · iapply (Entails.of_eq (show gPt c (blk (peer c j)) (lent 0) (AGF m ρ) = srcAt m ρ c (.pc j.succ) by
          show _ = gPt c (blk (nb c j.succ)) (lent 0) (AGF m ρ); rw [nb_succ]))
        iexact Hb'
      iintro ⟨HO, Hcr⟩
      iapply Hk
      isplitl [HO]
      · isplitr; · iexact Hc
        iexact HO
      isplitl [Hs]; · iexact Hs
      isplitl [Hb]; · iexact Hb
      isplitl [He]; · iexact He
      unfold credS; iexact Hcr) l15 Q k)
  isplitl [HO]
  · isplitr; · iexact Hc
    iexact HO
  isplitl [Hcs Hp Ht Hr]
  · iapply (Entails.of_eq (chain_sep l15 (fun j => credS (F := F) c (.ag j))
      (fun j => iprop(posR c (.ag j) ∗ tokR c (.pc j.succ) ∗ room (tgt c (.pc j.succ)) (.pc j.succ)))).symm)
    isplitl [Hcs]; · iexact Hcs
    iapply (Entails.of_eq (chain_sep l15 (fun j => posR (F := F) c (.ag j))
      (fun j => iprop(tokR c (.pc j.succ) ∗ room (tgt c (.pc j.succ)) (.pc j.succ)))).symm)
    isplitl [Hp]; · iexact Hp
    iapply (Entails.of_eq (chain_sep l15 (fun j : Fin 15 => tokR (F := F) c (.pc j.succ)) (fun j => room (tgt c (.pc j.succ)) (.pc j.succ))).symm)
    isplitl [Ht] <;> iassumption
  iintro ⟨⟨-, HO⟩, Hr⟩
  iapply Hk
  isplitl [HO]; · iexact HO
  ihave Hr := (Entails.of_eq (chain_sep l15 (fun j => srcAt m ρ c (.ag j))
    (fun j => iprop(gPt c (blk (peer c j)) (kept 1) (AGF m ρ) ∗ endR c (.ag j) ∗ credS c (.pc j.succ))))) $$ Hr
  icases Hr with ⟨Hs, Hr⟩
  ihave Hr := (Entails.of_eq (chain_sep l15 (fun j => gPt c (blk (peer c j)) (kept 1) (AGF m ρ))
    (fun j => iprop(endR c (.ag j) ∗ credS c (.pc j.succ))))) $$ Hr
  icases Hr with ⟨Hb, Hr⟩
  ihave Hr := (Entails.of_eq (chain_sep l15 (fun j => endR (F := F) c (.ag j)) (fun j => credS c (.pc j.succ)))) $$ Hr
  icases Hr with ⟨He, Hr⟩
  isplitl [Hs]; · iexact Hs
  isplitl [Hb]; · iexact Hb
  isplitl [He] <;> iassumption

end Phases

end Cert.Htp

end
-- ==== Proof.K.Rows.lean ====
/-
What a store of rows leaves and what a load of rows reads, and the contents of the buffers after each.
-/
module

public import proofs.«01_k».proof.Proof.K.Phases

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows stored and loaded -/

section
variable {e : EltTy} (M : Memref sig .tc .vmem S512x768 e) {n o : ℕ} {off : Fin 2 → ℕ} (h : ∀ a, off a + (Sh n).size a ≤ S512x768.size a)
  (f : M.view.ty.Contents (Elt F)) (w : (Sh n).Idx → Elt F e)

/-- Rows stored are read back. -/
theorem st_emb (j : (Sh n).Idx) :
    M.view.read (Elt F) ((M.access (Rect.unit (s := S512x768) off (Sh n).size h)).write (Elt F) f w Finset.univ)
      ((Rect.unit (s := S512x768) off (Sh n).size h).emb j) = w j :=
  congrFun (View.read_write_univ (v := M.access (Rect.unit (s := S512x768) off (Sh n).size h)) f w) j

/-- The rows stored hold the block laid there. -/
theorem st_in (ho : off = ![o, 0]) (hn : 0 < n) (i : S512x768.Idx) (hi : i ∈ rows o n) :
    M.view.read (Elt F) ((M.access (Rect.unit (s := S512x768) off (Sh n).size h)).write (Elt F) f w Finset.univ) i = up hn w o i := by
  obtain ⟨j, rfl⟩ := exists_emb h ho hi
  rw [st_emb, up_emb hn h ho]

/-- The other rows are as they were. -/
theorem st_out (ho : off = ![o, 0]) (i : S512x768.Idx) (hi : i ∉ rows o n) :
    M.view.read (Elt F) ((M.access (Rect.unit (s := S512x768) off (Sh n).size h)).write (Elt F) f w Finset.univ) i = M.view.read (Elt F) f i := by
  rw [View.read_apply, View.read_apply, View.write_of_not_mem]
  intro hm
  refine hi ?_
  rw [← set_unit h ho]
  rw [show (M.access (Rect.unit (s := S512x768) off (Sh n).size h)).setOn Finset.univ = M.view.setOn (Rect.unit (s := S512x768) off (Sh n).size h).set
    from View.set_slice M.view _] at hm
  exact (View.mem_setOn (v := M.view)).mp hm
end

/-- Two blocks laid with the same rows agree on them. -/
theorem up_eq {α : Type} {n : ℕ} (hn : 0 < n) (v : (Sh n).Idx → α) {o : ℕ} {i : S512x768.Idx} (hi : i ∈ rows o n) :
    up hn v o i = v (mk ⟨(i 0).val - o, by have := (mem_rows.mp hi); omega⟩ (i 1)) := by
  unfold up
  refine congrArg v (congrArg (fun r => mk r (i 1)) (Fin.ext ?_))
  exact Nat.mod_eq_of_lt (by have := mem_rows.mp hi; omega)

/-! ## The buffers' contents -/

section
variable (c : Dev nD)

theorem acc_read (off : Fin 2 → ℕ) (h : ∀ a, off a + S256x768.size a ≤ S512x768.size a) (f : Vec F S512x768 .f32) (w : FVec F S256x768 .f32) :
    accM.view.readAt (Elt F) (rct2 off h).toLoadRect ((accM.access (rct2 off h)).write (Elt F) f w Finset.univ) = w :=
  View.read_write_univ (v := accM.access (rct2 off h)) f w

theorem rd_acc (g : Vec F S512x768 .f32) (i : S512x768.Idx) : accM.view.read (Elt F) g i = g i := rfl
theorem rd_send (g : Vec F S512x768 .bf16) (i : S512x768.Idx) : sM.view.read (Elt F) g i = g i := rfl
theorem rd_gath (g : Vec F S512x768 .bf16) (i : S512x768.Idx) : gM.view.read (Elt F) g i = g i := rfl
theorem rd_out (g : Vec F S512x768 .f32) (i : S512x768.Idx) : yM.view.read (Elt F) g i = g i := rfl

section
variable (o : ℕ) (off : Fin 2 → ℕ) (ho : off = ![o, 0]) (i : S512x768.Idx)
include ho

theorem acc_st (h : ∀ a, off a + S256x768.size a ≤ S512x768.size a) (f : Vec F S512x768 .f32) (w : FVec F S256x768 .f32) (hi : i ∈ rows o 256) :
    (accM.access (rct2 off h)).write (Elt F) f w Finset.univ i = up (n := 256) (by decide) w o i :=
  (rd_acc _ i).symm.trans (st_in (F := F) accM (n := 256) h f w ho (by decide) i hi)
theorem send_st (h : ∀ a, off a + S256x768.size a ≤ S512x768.size a) (f : Vec F S512x768 .bf16) (w : FVec F S256x768 .bf16) (hi : i ∈ rows o 256) :
    (sM.access (rct2 off h)).write (Elt F) f w Finset.univ i = up (n := 256) (by decide) w o i :=
  (rd_send _ i).symm.trans (st_in (F := F) sM (n := 256) h f w ho (by decide) i hi)
theorem gath_st (h : ∀ a, off a + S16x768.size a ≤ S512x768.size a) (f : Vec F S512x768 .bf16) (w : FVec F S16x768 .bf16) (hi : i ∈ rows o 16) :
    (gM.access (rct off h)).write (Elt F) f w Finset.univ i = up (n := 16) (by decide) w o i :=
  (rd_gath _ i).symm.trans (st_in (F := F) gM (n := 16) h f w ho (by decide) i hi)
theorem out_st (h : ∀ a, off a + S256x768.size a ≤ S512x768.size a) (f : Vec F S512x768 .f32) (w : FVec F S256x768 .f32) (hi : i ∈ rows o 256) :
    (yM.access (rct2 off h)).write (Elt F) f w Finset.univ i = up (n := 256) (by decide) w o i :=
  (rd_out _ i).symm.trans (st_in (F := F) yM (n := 256) h f w ho (by decide) i hi)
theorem out_st' (h : ∀ a, off a + S256x768.size a ≤ S512x768.size a) (f : Vec F S512x768 .f32) (w : FVec F S256x768 .f32) (hi : i ∉ rows o 256) :
    (yM.access (rct2 off h)).write (Elt F) f w Finset.univ i = f i :=
  (rd_out _ i).symm.trans (st_out (F := F) yM (n := 256) h f w ho i hi)
end

/-- The first 256 rows of the send buffer, stored. -/
theorem send_top (f : Vec F S512x768 .bf16) (i : S512x768.Idx) (hi : i ∈ rows 0 256) :
    (sM.access (rct2 ![0, 0] inb_S512x768_S256x768_0_0)).write (Elt F) f (k0_pay17 (pA m ρ c)) Finset.univ i = SENDF m ρ c i := by
  rw [send_st 0 _ rfl i _ f _ hi]
  unfold SENDF top
  rw [if_pos (by have := (mem_rows.mp hi).2; omega)]
/-- The other 256 rows, stored. -/
theorem send_bot (f : Vec F S512x768 .bf16) (i : S512x768.Idx) (hi : i ∈ rows 256 256) :
    (sM.access (rct2 ![256, 0] inb_S512x768_S256x768_256_0)).write (Elt F) f (k0_pay35 (pB m ρ c) (top m ρ (sib c))) Finset.univ i = SENDF m ρ c i := by
  rw [send_st 256 _ rfl i _ f _ hi]
  unfold SENDF bot
  rw [if_neg (by have := (mem_rows.mp hi).1; omega)]
/-- The received rows, read. -/
theorem recv_top : rM.view.readAt (Elt F) (rct2 ![0, 0] inb_S512x768_S256x768_0_0).toLoadRect (RECVF m ρ c) = top m ρ (sib c) := by
  funext j
  show RECVF m ρ c ((rct2 ![0, 0] inb_S512x768_S256x768_0_0).emb j) = _
  obtain ⟨h0, h1⟩ := emb_unit (n := 256) inb_S512x768_S256x768_0_0 rfl j
  have hj : (j 0).val < 256 := (j 0).isLt
  unfold RECVF SENDF
  rw [if_pos (by rw [h0]; omega), if_pos (by rw [h0]; omega)]
  exact up_emb (n := 256) (by decide) inb_S512x768_S256x768_0_0 rfl _ j
/-- The accumulator's kept rows, stored. -/
theorem acc_kept (f : Vec F S512x768 .f32) (i : S512x768.Idx) (hi : i ∈ rows (t8 c) 256) :
    (accM.access (rct2 (k0_off2 c) (k0_off2_inb c))).write (Elt F) f (k0_pay34 (pB m ρ c) (top m ρ (sib c))) Finset.univ i = ACCF m ρ c i := by
  rw [acc_st (t8 c) _ (off2_eq c) i _ f _ hi]
  unfold ACCF acc
  rfl
theorem own_rows (j : S16x768.Idx) : (rct (k0_off6 c) (k0_off6_inb c)).emb j ∈ rows (t8 c) 256 := by
  obtain ⟨h0, -⟩ := emb_unit (n := 16) (k0_off6_inb c) (off6_eq c) j
  have hj : (j 0).val < 16 := (j 0).isLt
  have hg := (grp c).isLt
  rw [mem_rows, h0]
  unfold myb t8
  omega
/-- The own block of the accumulator, read. -/
theorem acc_own (f : Vec F S512x768 .f32) :
    accM.view.readAt (Elt F) (rct (k0_off6 c) (k0_off6_inb c)).toLoadRect
      ((accM.access (rct2 (k0_off2 c) (k0_off2_inb c))).write (Elt F) f (k0_pay34 (pB m ρ c) (top m ρ (sib c))) Finset.univ) = ownB m ρ c := by
  have h : ∀ g : Vec F S512x768 .f32, (∀ i ∈ rows (t8 c) 256, g i = ACCF m ρ c i) →
      accM.view.readAt (Elt F) (rct (k0_off6 c) (k0_off6_inb c)).toLoadRect g = ownB m ρ c := fun g hg => by
    funext j
    exact hg ((rct (k0_off6 c) (k0_off6_inb c)).emb j) (own_rows c j)
  exact h _ fun i hi => acc_kept m ρ c f i hi
/-- The own block of the gathered buffer, stored. -/
theorem gath_own (f : Vec F S512x768 .bf16) (i : S512x768.Idx) (hi : i ∈ blk c) :
    (gM.access (rct (k0_off6 c) (k0_off6_inb c))).write (Elt F) f (made m ρ c) Finset.univ i = AGF m ρ i := by
  rw [gath_st (myb c) _ (off6_eq c) i _ f _ hi]
  obtain ⟨h1, h2⟩ := mem_rows.mp hi
  have hg := (grp c).isLt
  unfold myb at h1 h2
  unfold AGF
  rw [show (i 0).val / 256 = half c by omega, show (i 0).val % 256 / 16 = (grp c).val by omega, devOf_half_grp]
  unfold up
  refine congrArg (made m ρ c) (congrArg (fun r => mk r (i 1)) (Fin.ext ?_))
  show ((i 0).val - myb c) % 16 = ((i 0).val - 0) % 16
  unfold myb
  omega
/-- The result's rows of the device's half, stored. -/
theorem out_own (f : Vec F S512x768 .f32) (i : S512x768.Idx) (hi : i ∈ rows (t8 c) 256) :
    (yM.access (rct2 (k0_off2 c) (k0_off2_inb c))).write (Elt F) f (outB m ρ c) Finset.univ i = OUTF m ρ c i := by
  rw [out_st (t8 c) _ (off2_eq c) i _ f _ hi]
  obtain ⟨h1, h2⟩ := mem_rows.mp hi
  unfold t8 at h1 h2
  unfold OUTF
  rw [if_pos (by omega)]
/-- The result, both halves stored. -/
theorem out_all (f : Vec F S512x768 .f32) (hf : ∀ i ∈ rows (t8 c) 256, f i = OUTF m ρ c i) (i : S512x768.Idx) :
    (yM.access (rct2 (k0_off1 c) (k0_off1_inb c))).write (Elt F) f (outA m ρ c) Finset.univ i = OUTF m ρ c i := by
  have ht := half_lt c
  have hl := lt512 i
  by_cases hi : i ∈ rows (256 - t8 c) 256
  · rw [out_st (256 - t8 c) _ (off1_eq c) i _ f _ hi]
    obtain ⟨h1, h2⟩ := mem_rows.mp hi
    unfold OUTF
    rw [if_neg (by unfold t8 at h1 h2; omega)]
  · rw [out_st' (256 - t8 c) _ (off1_eq c) i _ f _ hi]
    refine hf i ?_
    rw [mem_rows] at hi ⊢
    unfold t8 at hi ⊢
    omega
end

end Cert.Htp

end
-- ==== Proof.K.Body.lean ====
/-
The body of one device, from its tokens, its buffers and the barrier to the result: each stretch of the program leaves what the next one needs.
-/
module

public import proofs.«01_k».proof.Proof.K.Rows

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The other buffers -/

def aPt (c : Dev nD) (f : Vec F S512x768 .f32) : sProp 𝕄 := (c : Thread nD τ).loc cc0_scratch0 ↦[Finset.univ]{fullShare} f
def yPt (c : Dev nD) (f : Vec F S512x768 .f32) : sProp 𝕄 := (c : Thread nD τ).loc cc0_stg5_0 ↦[Finset.univ]{fullShare} f
def xPt (c : Dev nD) : sProp 𝕄 := (c : Thread nD τ).loc cc0_stg0_0 ↦[Finset.univ]{fullShare} (xs m ρ c)
def qPt (c : Dev nD) : sProp 𝕄 := (c : Thread nD τ).loc cc0_stg1_0 ↦[Finset.univ]{fullShare} (wq m ρ c)
def oPt (c : Dev nD) : sProp 𝕄 := (c : Thread nD τ).loc cc0_stg2_0 ↦[Finset.univ]{fullShare} (wo m ρ c)
def kPt (c : Dev nD) : sProp 𝕄 := (c : Thread nD τ).loc cc0_stg3_0 ↦[Finset.univ]{fullShare} (wk m ρ c)
def vPt (c : Dev nD) : sProp 𝕄 := (c : Thread nD τ).loc cc0_stg4_0 ↦[Finset.univ]{fullShare} (wv m ρ c)

/-- One resource for each copy. -/
def famX (Φ : X → sProp (MT nD τ sig Unit (Elt F) ℕ UU ℕ)) : sProp (MT nD τ sig Unit (Elt F) ℕ UU ℕ) :=
  iprop(Φ .s0 ∗ (bigSepL l15 fun j => Φ (.rs j)) ∗ (bigSepL l15 fun j => Φ (.ag j)) ∗ bigSepL l16 fun j => Φ (.pc j))

section Tails
variable (K : Dev nD × Ck → ℕ) (c : Dev nD)

/-! ## Loads and stores of the whole buffers -/

/-- The set a store writes. -/
theorem acc_set {n o : ℕ} {e : EltTy} {M : Memref sig .tc .vmem S512x768 e} {off : Fin 2 → ℕ} (h : ∀ a, off a + (Sh n).size a ≤ S512x768.size a) (ho : off = ![o, 0]) :
    (M.access (Rect.unit (s := S512x768) off (Sh n).size h)).set = M.view.setOn (rows o n) := by
  rw [← set_unit h ho]
  exact View.set_slice M.view _

theorem ld_y {α : Type} (Q : α → sProp 𝕄) (off : Fin 2 → ℕ) (h : ∀ a, off a + S256x768.size a ≤ S512x768.size a) (kont : Vec F S256x768 .f32 → P F α)
    (f : Vec F S512x768 .f32) :
    iprop(yPt c f ∗ (yPt c f -∗ wpB c (kont (yM.view.readAt (Elt F) (rct2 off h).toLoadRect f)) Q)) ⊢ wpB c (ld2 yM off h >>= kont) Q := by
  unfold yPt; exact step_ld c Q yM (rct2 off h).toLoadRect (View.loadsAt_vmem h_S256x768) kont Finset.univ fullShare f (Finset.subset_univ _)
theorem ld_y' {α : Type} (Q : α → sProp 𝕄) (off : Fin 2 → ℕ) (h : ∀ a, off a + S16x768.size a ≤ S512x768.size a) (kont : Vec F S16x768 .f32 → P F α)
    (f : Vec F S512x768 .f32) :
    iprop(yPt c f ∗ (yPt c f -∗ wpB c (kont (yM.view.readAt (Elt F) (rct off h).toLoadRect f)) Q)) ⊢ wpB c (ld yM off h >>= kont) Q := by
  unfold yPt; exact step_ld c Q yM (rct off h).toLoadRect (View.loadsAt_vmem h_S16x768) kont Finset.univ fullShare f (Finset.subset_univ _)
theorem ld_a {α : Type} (Q : α → sProp 𝕄) (off : Fin 2 → ℕ) (h : ∀ a, off a + S256x768.size a ≤ S512x768.size a) (kont : Vec F S256x768 .f32 → P F α)
    (f : Vec F S512x768 .f32) :
    iprop(aPt c f ∗ (aPt c f -∗ wpB c (kont (accM.view.readAt (Elt F) (rct2 off h).toLoadRect f)) Q)) ⊢ wpB c (ld2 accM off h >>= kont) Q := by
  unfold aPt; exact step_ld c Q accM (rct2 off h).toLoadRect (View.loadsAt_vmem h_S256x768) kont Finset.univ fullShare f (Finset.subset_univ _)
theorem ld_a' {α : Type} (Q : α → sProp 𝕄) (off : Fin 2 → ℕ) (h : ∀ a, off a + S16x768.size a ≤ S512x768.size a) (kont : Vec F S16x768 .f32 → P F α)
    (f : Vec F S512x768 .f32) :
    iprop(aPt c f ∗ (aPt c f -∗ wpB c (kont (accM.view.readAt (Elt F) (rct off h).toLoadRect f)) Q)) ⊢ wpB c (ld accM off h >>= kont) Q := by
  unfold aPt; exact step_ld c Q accM (rct off h).toLoadRect (View.loadsAt_vmem h_S16x768) kont Finset.univ fullShare f (Finset.subset_univ _)
theorem ld_x {α : Type} (Q : α → sProp 𝕄) (off : Fin 2 → ℕ) (h : ∀ a, off a + S256x768.size a ≤ S512x768.size a) (kont : Vec F S256x768 .bf16 → P F α) :
    iprop(xPt m ρ c ∗ (xPt m ρ c -∗ wpB c (kont (xM.view.readAt (Elt F) (rct2 off h).toLoadRect (xs m ρ c))) Q)) ⊢ wpB c (ld2 xM off h >>= kont) Q := by
  unfold xPt; exact step_ld c Q xM (rct2 off h).toLoadRect (View.loadsAt_vmem h_S256x768) kont Finset.univ fullShare (xs m ρ c) (Finset.subset_univ _)
theorem st_y {α : Type} (Q : α → sProp 𝕄) (off : Fin 2 → ℕ) (h : ∀ a, off a + S256x768.size a ≤ S512x768.size a) (v : FVec F S256x768 .f32) (kont : P F α)
    (f : Vec F S512x768 .f32) :
    iprop(yPt c f ∗ (yPt c ((yM.access (rct2 off h)).write (Elt F) f v Finset.univ) -∗ wpB c kont Q)) ⊢ wpB c (st2 yM off h v >>= fun _ => kont) Q := by
  unfold yPt; exact step_st c Q yM (rct2 off h) v (View.stores_vmem_bits_univ h_S256x768 rfl) (.inl rfl) kont Finset.univ f (Finset.subset_univ _)
theorem st_a {α : Type} (Q : α → sProp 𝕄) (off : Fin 2 → ℕ) (h : ∀ a, off a + S256x768.size a ≤ S512x768.size a) (v : FVec F S256x768 .f32) (kont : P F α)
    (f : Vec F S512x768 .f32) :
    iprop(aPt c f ∗ (aPt c ((accM.access (rct2 off h)).write (Elt F) f v Finset.univ) -∗ wpB c kont Q)) ⊢ wpB c (st2 accM off h v >>= fun _ => kont) Q := by
  unfold aPt; exact step_st c Q accM (rct2 off h) v (View.stores_vmem_bits_univ h_S256x768 rfl) (.inl rfl) kont Finset.univ f (Finset.subset_univ _)

theorem st_y' {α : Type} (Q : α → sProp 𝕄) (off : Fin 2 → ℕ) (h : ∀ a, off a + S16x768.size a ≤ S512x768.size a) (v : FVec F S16x768 .f32) (kont : P F α)
    (f : Vec F S512x768 .f32) :
    iprop(yPt c f ∗ (yPt c ((yM.access (rct off h)).write (Elt F) f v Finset.univ) -∗ wpB c kont Q))
      ⊢ wpB c (Prog.lift (.store yM (rct off h) v Finset.univ (View.stores_vmem_bits_univ h_S16x768 rfl) (.inl rfl)) >>= fun _ => kont) Q := by
  unfold yPt; exact step_st c Q yM (rct off h) v (View.stores_vmem_bits_univ h_S16x768 rfl) (.inl rfl) kont Finset.univ f (Finset.subset_univ _)
theorem gPt_same (I : Finset S512x768.Idx) (g g' : Vec F S512x768 .bf16) (h : ∀ i ∈ I, g i = g' i) : gPt c I fullShare g = gPt c I fullShare g' := by
  unfold gPt; exact pointsTo_congr h
/-- The own block stored in the gathered buffer. -/
theorem st_g {α : Type} (Q : α → sProp 𝕄) (kont : P F α) (f : Vec F S512x768 .bf16) :
    iprop(gPt c (blk c) fullShare f ∗ (gPt c (blk c) fullShare (AGF m ρ) -∗ wpB c kont Q))
      ⊢ wpB c (Prog.lift (.store gM (rct (k0_off6 c) (k0_off6_inb c)) (k0_pay40 (sum15 (recvd m ρ c)) (ownB m ρ c)) Finset.univ (View.stores_vmem h_S16x768 ((Memref.isWhole_whole _).storeExact_slice rfl _ (k0_off6_packedbf16 c)) (fun _ => rfl)) (.inl rfl)) >>= fun _ => kont) Q := by
  rw [show gPt c (blk c) fullShare (AGF m ρ) = gPt c (blk c) fullShare ((gM.access (rct (k0_off6 c) (k0_off6_inb c))).write (Elt F) f (made m ρ c) Finset.univ)
    from (gPt_same c (blk c) _ _ (gath_own m ρ c f)).symm]
  unfold gPt
  exact step_st c Q gM (rct (k0_off6 c) (k0_off6_inb c)) (made m ρ c) (View.stores_vmem h_S16x768 ((Memref.isWhole_whole _).storeExact_slice rfl _ (k0_off6_packedbf16 c)) (fun _ => rfl)) (.inl rfl) kont (blk c) f
    (Finset.subset_of_eq ((acc_set (M := gM) (n := 16) (k0_off6_inb c) (off6_eq c)).trans Finset.map_refl))
/-- The two halves stored in the send buffer. -/
theorem st_top {α : Type} (Q : α → sProp 𝕄) (kont : P F α) (f : Vec F S512x768 .bf16) :
    iprop(sPt c (rows 0 256) fullShare f ∗ (sPt c (rows 0 256) fullShare (SENDF m ρ c) -∗ wpB c kont Q))
      ⊢ wpB c (Prog.lift (.store sM (rct2 ![0, 0] inb_S512x768_S256x768_0_0) (k0_pay17 (pA m ρ c)) Finset.univ (View.stores_vmem h_S256x768 ((Memref.isWhole_whole _).storeExact_slice rfl _ packedbf16_S512x768_S256x768_0_0) (fun _ => rfl)) (.inl rfl)) >>= fun _ => kont) Q := by
  rw [show sPt c (rows 0 256) fullShare (SENDF m ρ c) = sPt c (rows 0 256) fullShare ((sM.access (rct2 ![0, 0] inb_S512x768_S256x768_0_0)).write (Elt F) f (k0_pay17 (pA m ρ c)) Finset.univ)
    from by unfold sPt; exact (pointsTo_congr fun i hi => send_top m ρ c f i hi).symm]
  unfold sPt
  exact step_st c Q sM (rct2 ![0, 0] inb_S512x768_S256x768_0_0) (k0_pay17 (pA m ρ c)) (View.stores_vmem h_S256x768 ((Memref.isWhole_whole _).storeExact_slice rfl _ packedbf16_S512x768_S256x768_0_0) (fun _ => rfl)) (.inl rfl) kont (rows 0 256) f
    (Finset.subset_of_eq ((acc_set (M := sM) (n := 256) inb_S512x768_S256x768_0_0 rfl).trans Finset.map_refl))
theorem st_bot {α : Type} (Q : α → sProp 𝕄) (kont : P F α) (f : Vec F S512x768 .bf16) :
    iprop(sPt c (rows 256 256) fullShare f ∗ (sPt c (rows 256 256) fullShare (SENDF m ρ c) -∗ wpB c kont Q))
      ⊢ wpB c (Prog.lift (.store sM (rct2 ![256, 0] inb_S512x768_S256x768_256_0) (k0_pay35 (pB m ρ c) (top m ρ (sib c))) Finset.univ (View.stores_vmem h_S256x768 ((Memref.isWhole_whole _).storeExact_slice rfl _ packedbf16_S512x768_S256x768_256_0) (fun _ => rfl)) (.inl rfl)) >>= fun _ => kont) Q := by
  rw [show sPt c (rows 256 256) fullShare (SENDF m ρ c) = sPt c (rows 256 256) fullShare ((sM.access (rct2 ![256, 0] inb_S512x768_S256x768_256_0)).write (Elt F) f (k0_pay35 (pB m ρ c) (top m ρ (sib c))) Finset.univ)
    from by unfold sPt; exact (pointsTo_congr fun i hi => send_bot m ρ c f i hi).symm]
  unfold sPt
  exact step_st c Q sM (rct2 ![256, 0] inb_S512x768_S256x768_256_0) (k0_pay35 (pB m ρ c) (top m ρ (sib c))) (View.stores_vmem h_S256x768 ((Memref.isWhole_whole _).storeExact_slice rfl _ packedbf16_S512x768_S256x768_256_0) (fun _ => rfl)) (.inl rfl) kont (rows 256 256) f
    (Finset.subset_of_eq ((acc_set (M := sM) (n := 256) inb_S512x768_S256x768_256_0 rfl).trans Finset.map_refl))
/-- The weights loaded. -/
theorem zero2 : (![0, 0] : Fin 2 → ℕ) = fun _ => 0 := by funext a; fin_cases a <;> rfl
theorem ld_q {α : Type} (Q : α → sProp 𝕄) (kont : Vec F S768x512 .bf16 → P F α) :
    iprop(qPt m ρ c ∗ (qPt m ρ c -∗ wpB c (kont (wq m ρ c)) Q))
      ⊢ wpB c (Prog.lift (.load qM (Rect.unit (s := S768x512) ![0, 0] S768x512.size inb_S768x512_S768x512_0_0).toLoadRect (View.loadsAt_vmem h_S768x512)) >>= kont) Q := by
  have h := step_ld c Q qM (Rect.unit (s := S768x512) ![0, 0] S768x512.size inb_S768x512_S768x512_0_0).toLoadRect (View.loadsAt_vmem h_S768x512) kont Finset.univ fullShare
    (wq m ρ c) (Finset.subset_univ _)
  have e : qM.view.readAt (Elt F) (Rect.unit (s := S768x512) ![0, 0] S768x512.size inb_S768x512_S768x512_0_0).toLoadRect (wq m ρ c) = wq m ρ c :=
    Memref.readAt_unit_zero (Elt F) cc0_stg1_0 zero2 _ _
  rw [e] at h
  unfold qPt
  exact h
theorem ld_k {α : Type} (Q : α → sProp 𝕄) (kont : Vec F S768x512 .bf16 → P F α) :
    iprop(kPt m ρ c ∗ (kPt m ρ c -∗ wpB c (kont (wk m ρ c)) Q))
      ⊢ wpB c (Prog.lift (.load kM (Rect.unit (s := S768x512) ![0, 0] S768x512.size inb_S768x512_S768x512_0_0).toLoadRect (View.loadsAt_vmem h_S768x512)) >>= kont) Q := by
  have h := step_ld c Q kM (Rect.unit (s := S768x512) ![0, 0] S768x512.size inb_S768x512_S768x512_0_0).toLoadRect (View.loadsAt_vmem h_S768x512) kont Finset.univ fullShare
    (wk m ρ c) (Finset.subset_univ _)
  have e : kM.view.readAt (Elt F) (Rect.unit (s := S768x512) ![0, 0] S768x512.size inb_S768x512_S768x512_0_0).toLoadRect (wk m ρ c) = wk m ρ c :=
    Memref.readAt_unit_zero (Elt F) cc0_stg3_0 zero2 _ _
  rw [e] at h
  unfold kPt
  exact h
theorem ld_v {α : Type} (Q : α → sProp 𝕄) (kont : Vec F S768x512 .bf16 → P F α) :
    iprop(vPt m ρ c ∗ (vPt m ρ c -∗ wpB c (kont (wv m ρ c)) Q))
      ⊢ wpB c (Prog.lift (.load vM (Rect.unit (s := S768x512) ![0, 0] S768x512.size inb_S768x512_S768x512_0_0).toLoadRect (View.loadsAt_vmem h_S768x512)) >>= kont) Q := by
  have h := step_ld c Q vM (Rect.unit (s := S768x512) ![0, 0] S768x512.size inb_S768x512_S768x512_0_0).toLoadRect (View.loadsAt_vmem h_S768x512) kont Finset.univ fullShare
    (wv m ρ c) (Finset.subset_univ _)
  have e : vM.view.readAt (Elt F) (Rect.unit (s := S768x512) ![0, 0] S768x512.size inb_S768x512_S768x512_0_0).toLoadRect (wv m ρ c) = wv m ρ c :=
    Memref.readAt_unit_zero (Elt F) cc0_stg4_0 zero2 _ _
  rw [e] at h
  unfold vPt
  exact h
theorem ld_o {α : Type} (Q : α → sProp 𝕄) (kont : Vec F S512x768 .bf16 → P F α) :
    iprop(oPt m ρ c ∗ (oPt m ρ c -∗ wpB c (kont (wo m ρ c)) Q))
      ⊢ wpB c (Prog.lift (.load oM (Rect.unit (s := S512x768) ![0, 0] S512x768.size inb_S512x768_S512x768_0_0).toLoadRect (View.loadsAt_vmem h_S512x768)) >>= kont) Q := by
  have h := step_ld c Q oM (Rect.unit (s := S512x768) ![0, 0] S512x768.size inb_S512x768_S512x768_0_0).toLoadRect (View.loadsAt_vmem h_S512x768) kont Finset.univ fullShare
    (wo m ρ c) (Finset.subset_univ _)
  have e : oM.view.readAt (Elt F) (Rect.unit (s := S512x768) ![0, 0] S512x768.size inb_S512x768_S512x768_0_0).toLoadRect (wo m ρ c) = wo m ρ c :=
    Memref.readAt_unit_zero (Elt F) cc0_stg2_0 zero2 _ _
  rw [e] at h
  unfold oPt
  exact h

theorem rows_in {b : Ref sig .tc} (r : Rect b.ty.shape) : (Memref.whole b).view.setOn r.toLoadRect.set = r.set := Finset.map_refl

theorem ld_g2 {α : Type} (Q : α → sProp 𝕄) (off : Fin 2 → ℕ) (h : ∀ a, off a + S256x768.size a ≤ S512x768.size a) (kont : Vec F S256x768 .bf16 → P F α)
    (o : ℕ) (ho : off = ![o, 0]) (I : Finset S512x768.Idx) (hI : rows o 256 ⊆ I) (q : PosShare TreeShare) (f : Vec F S512x768 .bf16) :
    iprop(gPt c I q f ∗ (gPt c I q f -∗ wpB c (kont (gM.view.readAt (Elt F) (rct2 off h).toLoadRect f)) Q)) ⊢ wpB c (ld2 gM off h >>= kont) Q := by
  unfold gPt
  exact step_ld c Q gM (rct2 off h).toLoadRect (View.loadsAt_vmem h_S256x768) kont I q f (by
    refine Finset.Subset.trans (Finset.Subset.trans (Finset.subset_of_eq (rows_in (b := cc0_scratch3) (rct2 off h))) ?_) hI
    exact Finset.subset_of_eq (set_unit (n := 256) h ho))
theorem ld_g {α : Type} (Q : α → sProp 𝕄) (off : Fin 2 → ℕ) (h : ∀ a, off a + S16x768.size a ≤ S512x768.size a) (kont : Vec F S16x768 .bf16 → P F α)
    (o : ℕ) (ho : off = ![o, 0]) (I : Finset S512x768.Idx) (hI : rows o 16 ⊆ I) (q : PosShare TreeShare) (f : Vec F S512x768 .bf16) :
    iprop(gPt c I q f ∗ (gPt c I q f -∗ wpB c (kont (gM.view.readAt (Elt F) (rct off h).toLoadRect f)) Q)) ⊢ wpB c (ld gM off h >>= kont) Q := by
  unfold gPt
  exact step_ld c Q gM (rct off h).toLoadRect (View.loadsAt_vmem h_S16x768) kont I q f (by
    refine Finset.Subset.trans (Finset.Subset.trans (Finset.subset_of_eq (rows_in (b := cc0_scratch3) (rct off h))) ?_) hI
    exact Finset.subset_of_eq (set_unit (n := 16) h ho))
theorem ld_r2 {α : Type} (Q : α → sProp 𝕄) (off : Fin 2 → ℕ) (h : ∀ a, off a + S256x768.size a ≤ S512x768.size a) (kont : Vec F S256x768 .bf16 → P F α)
    (o : ℕ) (ho : off = ![o, 0]) (I : Finset S512x768.Idx) (hI : rows o 256 ⊆ I) (q : PosShare TreeShare) (f : Vec F S512x768 .bf16) :
    iprop(rPt c I q f ∗ (rPt c I q f -∗ wpB c (kont (rM.view.readAt (Elt F) (rct2 off h).toLoadRect f)) Q)) ⊢ wpB c (ld2 rM off h >>= kont) Q := by
  unfold rPt
  exact step_ld c Q rM (rct2 off h).toLoadRect (View.loadsAt_vmem h_S256x768) kont I q f (by
    refine Finset.Subset.trans (Finset.Subset.trans (Finset.subset_of_eq (rows_in (b := cc0_scratch2) (rct2 off h))) ?_) hI
    exact Finset.subset_of_eq (set_unit (n := 256) h ho))
theorem ld_r {α : Type} (Q : α → sProp 𝕄) (off : Fin 2 → ℕ) (h : ∀ a, off a + S16x768.size a ≤ S512x768.size a) (kont : Vec F S16x768 .bf16 → P F α)
    (o : ℕ) (ho : off = ![o, 0]) (I : Finset S512x768.Idx) (hI : rows o 16 ⊆ I) (q : PosShare TreeShare) (f : Vec F S512x768 .bf16) :
    iprop(rPt c I q f ∗ (rPt c I q f -∗ wpB c (kont (rM.view.readAt (Elt F) (rct off h).toLoadRect f)) Q)) ⊢ wpB c (ld rM off h >>= kont) Q := by
  unfold rPt
  exact step_ld c Q rM (rct off h).toLoadRect (View.loadsAt_vmem h_S16x768) kont I q f (by
    refine Finset.Subset.trans (Finset.Subset.trans (Finset.subset_of_eq (rows_in (b := cc0_scratch2) (rct off h))) ?_) hI
    exact Finset.subset_of_eq (set_unit (n := 16) h ho))
theorem ld_s2 {α : Type} (Q : α → sProp 𝕄) (off : Fin 2 → ℕ) (h : ∀ a, off a + S256x768.size a ≤ S512x768.size a) (kont : Vec F S256x768 .bf16 → P F α)
    (o : ℕ) (ho : off = ![o, 0]) (I : Finset S512x768.Idx) (hI : rows o 256 ⊆ I) (q : PosShare TreeShare) (f : Vec F S512x768 .bf16) :
    iprop(sPt c I q f ∗ (sPt c I q f -∗ wpB c (kont (sM.view.readAt (Elt F) (rct2 off h).toLoadRect f)) Q)) ⊢ wpB c (ld2 sM off h >>= kont) Q := by
  unfold sPt
  exact step_ld c Q sM (rct2 off h).toLoadRect (View.loadsAt_vmem h_S256x768) kont I q f (by
    refine Finset.Subset.trans (Finset.Subset.trans (Finset.subset_of_eq (rows_in (b := cc0_scratch1) (rct2 off h))) ?_) hI
    exact Finset.subset_of_eq (set_unit (n := 256) h ho))

/-- Nothing left to run. -/
theorem wp_done (Q : PUnit → sProp 𝕄) : Q ⟨⟩ ⊢ wpB c (pure ⟨⟩ : P F PUnit) Q := by
  show _ ⊢ wp frame (wpE (defs₀ (F := F)) 𝒱₀ (c : Thread nD τ) none) Set.univ (Prog.ret ⟨⟩) Q
  rw [wp_ret]
  iintro H
  imodintro
  iexact H

/-! ## The last stretches -/

/-- The other half of the result, from the gathered buffer. -/
theorem run_tailF (Q : PUnit → sProp 𝕄) (fy : Vec F S512x768 .f32) (hy : ∀ i ∈ rows (t8 c) 256, fy i = OUTF m ρ c i) :
    iprop(gPt c Finset.univ fullShare (AGF m ρ) ∗ yPt c fy
        ∗ ((gPt c Finset.univ fullShare (AGF m ρ) ∗ yPt c (OUTF m ρ c)) -∗ Q ⟨⟩))
      ⊢ wpB c (tailF c) Q := by
  unfold tailF
  iintro ⟨Hg, Hy, Hk⟩
  iapply (ld_g2 c Q _ _ _ _ (off1_eq c) Finset.univ (Finset.subset_univ _) fullShare (AGF m ρ))
  isplitl [Hg]; · iexact Hg
  iintro Hg
  iapply (ld_y c Q _ _ _ fy)
  isplitl [Hy]; · iexact Hy
  iintro Hy
  iapply (st_y c Q _ _ _ _ fy)
  isplitl [Hy]; · iexact Hy
  iintro Hy
  iapply (wp_done c Q)
  iapply Hk
  isplitl [Hg]; · iexact Hg
  iapply (Entails.of_eq (show yPt c ((yM.access (rct2 (k0_off1 c) (k0_off1_inb c))).write (Elt F) fy (outA m ρ c) Finset.univ) = yPt c (OUTF m ρ c) from
    congrArg (yPt c) (funext (out_all m ρ c fy hy))))
  iexact Hy

/-- What the gather starts with, and what it leaves, at the semaphores. -/
def kitG : sProp 𝕄 :=
  iprop((bigSepL l15 fun j => tokR c (.ag j)) ∗ (bigSepL l16 fun j => tokR c (.pc j)) ∗ (bigSepL l15 fun j => posR c (.ag j))
    ∗ (bigSepL l16 fun j => posR c (.pc j)) ∗ (bigSepL l15 fun j => room (tgt c (.ag j)) (.ag j)) ∗ bigSepL l16 fun j => room (tgt c (.pc j)) (.pc j))
def endG : sProp 𝕄 := iprop((bigSepL l15 fun j => endR c (.ag j)) ∗ bigSepL l16 fun j => endR c (.pc j))
/-- What the gather leaves. -/
def postE : sProp 𝕄 := iprop(owesE c [] ∗ gPt c Finset.univ fullShare (AGF m ρ) ∗ yPt c (OUTF m ρ c) ∗ endG c)

/-- A half's blocks, from the device's own and its peers'. -/
theorem half_peers (q : PosShare TreeShare) (f : Vec F S512x768 .bf16) :
    gPt (F := F) c (rows (t8 c) 256) q f = iprop(gPt c (blk c) q f ∗ bigSepL l15 fun j => gPt c (blk (peer c j)) q f) :=
  Splits.half' (gPt_splits c q f) c
theorem half_lentd (f : Vec F S512x768 .bf16) :
    gPt (F := F) c (rows (t8 c) 256) (lent 0) f = bigSepL l16 fun j => gPt c (blk (nb c j)) (lent 0) f :=
  Splits.half (gPt_splits c (lent 0) f) c
theorem half_sibs (f : Vec F S512x768 .bf16) :
    gPt (F := F) c (rows (t8 (sib c)) 256) fullShare f = bigSepL l16 fun j => gPt c (blk (nb (sib c) j)) fullShare f :=
  Splits.half (gPt_splits c fullShare f) (sib c)

theorem run_tailE (Q : PUnit → sProp 𝕄) (fy : Vec F S512x768 .f32) :
    iprop(ctx m ρ K ∗ owesE c yAg ∗ gPt c (blk c) fullShare (AGF m ρ) ∗ yPt c fy ∗ kitG c ∗ (postE m ρ c -∗ Q ⟨⟩))
      ⊢ wpB c (tailE c) Q := by
  unfold tailE kitG
  iintro ⟨#Hc, HO, Hg, Hy, ⟨Hta, Htp, Hpa, Hpp, Hra, Hrp⟩, Hk⟩
  ihave Htp := (Entails.of_eq (chain16 (fun j => tokR (F := F) c (.pc j)))) $$ Htp
  icases Htp with ⟨Ht0, Htp⟩
  ihave Hrp := (Entails.of_eq (chain16 (fun j => room (F := F) (tgt c (.pc j)) (.pc j)))) $$ Hrp
  icases Hrp with ⟨Hr0, Hrp⟩
  ihave Hg := (Entails.of_eq ((show gPt c (blk c) fullShare (AGF m ρ) = gPt c (blk c) (kept 0) (AGF m ρ) from rfl).trans <| gPt_halve c (AGF m ρ) (blk c) 0)) $$ Hg
  icases Hg with ⟨Hg, Hg0⟩
  ihave Hg := (Entails.of_eq (gPt_lend c (AGF m ρ) (blk c))) $$ Hg
  icases Hg with ⟨Hg, Hgl⟩
  unfold tokR
  icases Ht0 with ⟨Ht1, Ht2⟩
  iapply (step_send m ρ K c Q _ (.pc 0) (l15.map (fun j => .inr (.ag j)) ++ yPc))
  isplitr; · iexact Hc
  isplitl [HO]; · iexact HO
  isplitl [Ht1]; · iexact Ht1
  isplitl [Ht2]; · iexact Ht2
  isplitl [Hr0]; · iexact Hr0
  isplitl [Hg0]
  · iapply (Entails.of_eq (show gPt c (blk c) (lent 0) (AGF m ρ) = srcAt m ρ c (.pc 0) by
      show _ = gPt c (blk (nb c 0)) (lent 0) (AGF m ρ); rw [nb_zero]))
    iexact Hg0
  iintro ⟨HO, Hc0⟩
  iapply (ph_sends m ρ K c Q _ X.ag l15 yPc)
  isplitr; · iexact Hc
  isplitl [HO]; · iexact HO
  isplitl [Hta]; · iexact Hta
  isplitl [Hra]; · iexact Hra
  isplitl [Hgl]; · iexact Hgl
  iintro ⟨HO, Hca⟩
  iapply (ph_forward m ρ K c Q _)
  isplitr; · iexact Hc
  isplitl [HO]; · iexact HO
  isplitl [Hca]; · iexact Hca
  isplitl [Hpa]; · iexact Hpa
  isplitl [Htp]; · iexact Htp
  isplitl [Hrp]; · iexact Hrp
  iintro ⟨HO, Hgl, Hgp, Hea, Hcp⟩
  ihave Hg := (Entails.of_eq (gPt_lend c (AGF m ρ) (blk c)).symm) $$ [Hg Hgl]
  · isplitl [Hg]; · iexact Hg
    iexact Hgl
  ihave Hg := (Entails.of_eq (half_peers c (kept 1) (AGF m ρ)).symm) $$ [Hg Hgp]
  · isplitl [Hg]; · iexact Hg
    iexact Hgp
  iapply (ld_g2 c Q _ _ _ _ (off2_eq c) (rows (t8 c) 256) (Finset.Subset.refl _) (kept 1) (AGF m ρ))
  isplitl [Hg]; · iexact Hg
  iintro Hg
  iapply (ld_y c Q _ _ _ fy)
  isplitl [Hy]; · iexact Hy
  iintro Hy
  iapply (st_y c Q _ _ _ _ fy)
  isplitl [Hy]; · iexact Hy
  iintro Hy
  iapply (ph_waits m ρ K c Q _ X.pc l16 [] (fun _ y h => absurd h List.not_mem_nil))
  isplitr; · iexact Hc
  isplitl [HO]; · iexact HO
  isplitl [Hc0 Hcp]
  · iapply (Entails.of_eq (chain16 (fun j => credS (F := F) c (.pc j))).symm)
    isplitl [Hc0]; · unfold credS; iexact Hc0
    iexact Hcp
  isplitl [Hpp]; · iexact Hpp
  iintro ⟨HO, Hgl, Hgs, Hep⟩
  ihave Hgl := (show (bigSepL l16 fun a => srcAt m ρ c (X.pc a)) ⊢ gPt c (rows (t8 c) 256) (lent 0) (AGF m ρ) from
    Entails.of_eq (half_lentd c (AGF m ρ)).symm) $$ Hgl
  ihave Hg := (Entails.of_eq (gPt_halve c (AGF m ρ) (rows (t8 c) 256) 0).symm) $$ [Hg Hgl]
  · isplitl [Hg]; · iexact Hg
    iexact Hgl
  ihave Hgs := (show (bigSepL l16 fun a => recvPay m ρ c (X.pc a)) ⊢ gPt c (rows (t8 (sib c)) 256) fullShare (AGF m ρ) from
    Entails.of_eq (half_sibs c (AGF m ρ)).symm) $$ Hgs
  ihave Hg := (Entails.of_eq (Splits.halves (gPt_splits c fullShare (AGF m ρ)) c).symm) $$ [Hg Hgs]
  · isplitl [Hg]; · iexact Hg
    iexact Hgs
  iapply (run_tailF m ρ c Q _ (fun i hi => out_own m ρ c fy i hi))
  isplitl [Hg]; · iexact Hg
  isplitl [Hy]; · iexact Hy
  iintro ⟨Hg, Hy⟩
  iapply Hk
  unfold postE endG
  isplitl [HO]; · iexact HO
  isplitl [Hg]; · iexact Hg
  isplitl [Hy]; · iexact Hy
  isplitl [Hea]; · iexact Hea
  iexact Hep

/-! ## The own block -/

/-- What the own block's stretch leaves. -/
def postD (fa : Vec F S512x768 .f32) : sProp 𝕄 := iprop(aPt c fa ∗ rPt c (slots c) fullShare (RECVF m ρ c) ∗ postE m ρ c)

theorem slot_in (j : Fin 15) : slot (peer c j) ⊆ slots c := Finset.subset_biUnion_of_mem (fun j : Fin 15 => slot (peer c j)) (Finset.mem_univ j)
theorem ld_slot {α : Type} (Q : α → sProp 𝕄) (j : Fin 15) (kont : Vec F S16x768 .bf16 → P F α) :
    iprop(rPt c (slots c) fullShare (RECVF m ρ c) ∗ (rPt c (slots c) fullShare (RECVF m ρ c) -∗ wpB c (kont (recvd m ρ c j)) Q))
      ⊢ wpB c (ld rM (o5 c j) (k0_off5_inb c j) >>= kont) Q :=
  ld_r c Q _ _ kont _ (off5_eq c j) (slots c) (slot_in c j) fullShare (RECVF m ρ c)
theorem recvd_vec : ![recvd m ρ c 0, recvd m ρ c 1, recvd m ρ c 2, recvd m ρ c 3, recvd m ρ c 4, recvd m ρ c 5, recvd m ρ c 6, recvd m ρ c 7,
    recvd m ρ c 8, recvd m ρ c 9, recvd m ρ c 10, recvd m ρ c 11, recvd m ρ c 12, recvd m ρ c 13, recvd m ρ c 14] = recvd m ρ c := by
  funext j; fin_cases j <;> rfl

theorem run_tailD (Q : PUnit → sProp 𝕄) (fy fa : Vec F S512x768 .f32) (fg : Vec F S512x768 .bf16)
    (ha : accM.view.readAt (Elt F) (rct (k0_off6 c) (k0_off6_inb c)).toLoadRect fa = ownB m ρ c) :
    iprop(ctx m ρ K ∗ owesE c yAg ∗ rPt c (slots c) fullShare (RECVF m ρ c) ∗ aPt c fa ∗ gPt c (blk c) fullShare fg ∗ yPt c fy ∗ kitG c
        ∗ (postD m ρ c fa -∗ Q ⟨⟩))
      ⊢ wpB c (tailD c) Q := by
  unfold tailD
  iintro ⟨#Hc, HO, Hr, Ha, Hg, Hy, Hkit, Hk⟩
  iapply (ld_slot m ρ c Q 0 _)
  isplitl [Hr]; · iexact Hr
  iintro Hr
  iapply (ld_slot m ρ c Q 1 _)
  isplitl [Hr]; · iexact Hr
  iintro Hr
  iapply (ld_slot m ρ c Q 2 _)
  isplitl [Hr]; · iexact Hr
  iintro Hr
  iapply (ld_slot m ρ c Q 3 _)
  isplitl [Hr]; · iexact Hr
  iintro Hr
  iapply (ld_slot m ρ c Q 4 _)
  isplitl [Hr]; · iexact Hr
  iintro Hr
  iapply (ld_slot m ρ c Q 5 _)
  isplitl [Hr]; · iexact Hr
  iintro Hr
  iapply (ld_slot m ρ c Q 6 _)
  isplitl [Hr]; · iexact Hr
  iintro Hr
  iapply (ld_slot m ρ c Q 7 _)
  isplitl [Hr]; · iexact Hr
  iintro Hr
  iapply (ld_slot m ρ c Q 8 _)
  isplitl [Hr]; · iexact Hr
  iintro Hr
  iapply (ld_slot m ρ c Q 9 _)
  isplitl [Hr]; · iexact Hr
  iintro Hr
  iapply (ld_slot m ρ c Q 10 _)
  isplitl [Hr]; · iexact Hr
  iintro Hr
  iapply (ld_slot m ρ c Q 11 _)
  isplitl [Hr]; · iexact Hr
  iintro Hr
  iapply (ld_slot m ρ c Q 12 _)
  isplitl [Hr]; · iexact Hr
  iintro Hr
  iapply (ld_slot m ρ c Q 13 _)
  isplitl [Hr]; · iexact Hr
  iintro Hr
  iapply (ld_slot m ρ c Q 14 _)
  isplitl [Hr]; · iexact Hr
  iintro Hr
  iapply (ld_a' c Q _ _ _ fa)
  isplitl [Ha]; · iexact Ha
  iintro Ha
  rw [ha, recvd_vec]
  iapply (ld_g c Q _ _ _ _ (off6_eq c) (blk c) (Finset.Subset.refl _) fullShare fg)
  isplitl [Hg]; · iexact Hg
  iintro Hg
  iapply (st_g m ρ c Q _ fg)
  isplitl [Hg]; · iexact Hg
  iintro Hg
  iapply (ld_y' c Q _ _ _ fy)
  isplitl [Hy]; · iexact Hy
  iintro Hy
  iapply (st_y' c Q _ _ _ _ fy)
  isplitl [Hy]; · iexact Hy
  iintro Hy
  iapply (run_tailE m ρ K c Q)
  isplitr; · iexact Hc
  isplitl [HO]; · iexact HO
  isplitl [Hg]; · iexact Hg
  isplitl [Hy]; · iexact Hy
  isplitl [Hkit]; · iexact Hkit
  iintro HE
  iapply Hk
  unfold postD
  isplitl [Ha]; · iexact Ha
  isplitl [Hr]; · iexact Hr
  iexact HE

/-! ## The reduce-scatter -/

def kitS : sProp 𝕄 :=
  iprop((bigSepL l15 fun j => tokR c (.rs j)) ∗ (bigSepL l15 fun j => posR c (.rs j)) ∗ bigSepL l15 fun j => room (tgt c (.rs j)) (.rs j))
def postC (fa : Vec F S512x768 .f32) : sProp 𝕄 :=
  iprop((bigSepL l15 fun j => srcAt m ρ c (.rs j)) ∗ (bigSepL l15 fun j => endR c (.rs j)) ∗ postD m ρ c fa)

theorem yAg_above (j : Fin 15) : ∀ y ∈ yAg, xLv (.rs j) < yLv y := by
  intro y hy
  unfold yAg yPc at hy
  simp only [List.mem_cons, List.mem_append, List.mem_map] at hy
  rcases hy with rfl | ⟨_, -, rfl⟩ | ⟨_, -, rfl⟩ <;> show (3 : ℕ) < _ <;> first | exact (by decide : 3 < 5) | exact (by decide : 3 < 4)

theorem run_tailC (Q : PUnit → sProp 𝕄) (fy fa : Vec F S512x768 .f32) (fg : Vec F S512x768 .bf16)
    (ha : accM.view.readAt (Elt F) (rct (k0_off6 c) (k0_off6_inb c)).toLoadRect fa = ownB m ρ c) :
    iprop(ctx m ρ K ∗ owesE c yRs ∗ (bigSepL l15 fun j => srcAt m ρ c (.rs j)) ∗ kitS c ∗ aPt c fa ∗ gPt c (blk c) fullShare fg ∗ yPt c fy ∗ kitG c
        ∗ (postC m ρ c fa -∗ Q ⟨⟩))
      ⊢ wpB c (tailC c) Q := by
  unfold tailC kitS
  iintro ⟨#Hc, HO, Hs, ⟨Ht, Hp, Hr⟩, Ha, Hg, Hy, Hkit, Hk⟩
  iapply (ph_sends m ρ K c Q _ X.rs l15 yAg)
  isplitr; · iexact Hc
  isplitl [HO]; · iexact HO
  isplitl [Ht]; · iexact Ht
  isplitl [Hr]; · iexact Hr
  isplitl [Hs]; · iexact Hs
  iintro ⟨HO, Hcr⟩
  iapply (ph_waits m ρ K c Q _ X.rs l15 yAg yAg_above)
  isplitr; · iexact Hc
  isplitl [HO]; · iexact HO
  isplitl [Hcr]; · iexact Hcr
  isplitl [Hp]; · iexact Hp
  iintro ⟨HO, Hs, Hr, He⟩
  ihave Hr := (show (bigSepL l15 fun j => recvPay m ρ c (X.rs j)) ⊢ rPt c (slots c) fullShare (RECVF m ρ c) from
    Entails.of_eq (Splits.slots_eq (rPt_splits c fullShare (RECVF m ρ c)) c).symm) $$ Hr
  iapply (run_tailD m ρ K c Q fy fa fg ha)
  isplitr; · iexact Hc
  isplitl [HO]; · iexact HO
  isplitl [Hr]; · iexact Hr
  isplitl [Ha]; · iexact Ha
  isplitl [Hg]; · iexact Hg
  isplitl [Hy]; · iexact Hy
  isplitl [Hkit]; · iexact Hkit
  iintro HD
  iapply Hk
  unfold postC
  isplitl [Hs]; · iexact Hs
  isplitl [He]; · iexact He
  iexact HD

/-! ## The exchange with the sibling -/

def postB : sProp 𝕄 :=
  iprop(∃ fa, sPt c Finset.univ fullShare (SENDF m ρ c) ∗ rPt c (rows 0 256) fullShare (RECVF m ρ c) ∗ endR c .s0
    ∗ (bigSepL l15 fun j => endR c (.rs j)) ∗ postD m ρ c fa)

theorem yRs_above : ∀ y ∈ yRs, xLv .s0 < yLv y := by
  intro y hy
  unfold yRs yAg yPc at hy
  simp only [List.mem_cons, List.mem_append, List.mem_map] at hy
  rcases hy with ⟨_, -, rfl⟩ | rfl | ⟨_, -, rfl⟩ | ⟨_, -, rfl⟩ <;> show (2 : ℕ) < _ <;>
    first | exact (by decide : 2 < 5) | exact (by decide : 2 < 4) | exact (by decide : 2 < 3)

theorem run_tailB (Q : PUnit → sProp 𝕄) (fy fa : Vec F S512x768 .f32) (fg fs : Vec F S512x768 .bf16) :
    iprop(ctx m ρ K ∗ owesE c yRs ∗ credS c .s0 ∗ posR c .s0 ∗ sPt c (rows 256 256) fullShare fs ∗ kitS c ∗ aPt c fa
        ∗ gPt c (blk c) fullShare fg ∗ yPt c fy ∗ kitG c ∗ (postB m ρ c -∗ Q ⟨⟩))
      ⊢ wpB c (tailB c (pB m ρ c)) Q := by
  unfold tailB
  iintro ⟨#Hc, HO, Hcr, Hp, Hs, Hks, Ha, Hg, Hy, Hkit, Hk⟩
  iapply (ld_a c Q _ _ _ fa)
  isplitl [Ha]; · iexact Ha
  iintro Ha
  iapply (st_a c Q _ _ _ _ fa)
  isplitl [Ha]; · iexact Ha
  iintro Ha
  iapply (step_waits m ρ K c Q _ .s0 yRs yRs_above)
  isplitr; · iexact Hc
  isplitl [HO]; · iexact HO
  isplitl [Hcr]; · iexact Hcr
  isplitl [Hp]; · iexact Hp
  iintro ⟨HO, Hst, Hr, He⟩
  iapply (ld_a c Q _ _ _ _)
  isplitl [Ha]; · iexact Ha
  iintro Ha
  rw [acc_read]
  ihave Hr := (show recvPay m ρ c .s0 ⊢ rPt c (rows 0 256) fullShare (RECVF m ρ c) from Entails.of_eq rfl) $$ Hr
  ihave Hst := (show srcAt m ρ c .s0 ⊢ sPt c (rows 0 256) fullShare (SENDF m ρ c) from Entails.of_eq rfl) $$ Hst
  iapply (ld_r2 c Q _ _ _ 0 rfl (rows 0 256) (Finset.Subset.refl _) fullShare (RECVF m ρ c))
  isplitl [Hr]; · iexact Hr
  iintro Hr
  rw [recv_top]
  iapply (ld_a c Q _ _ _ _)
  isplitl [Ha]; · iexact Ha
  iintro Ha
  iapply (st_a c Q _ _ _ _ _)
  isplitl [Ha]; · iexact Ha
  iintro Ha
  iapply (ld_s2 c Q _ _ _ 256 rfl (rows 256 256) (Finset.Subset.refl _) fullShare fs)
  isplitl [Hs]; · iexact Hs
  iintro Hs
  iapply (st_bot m ρ c Q _ fs)
  isplitl [Hs]; · iexact Hs
  iintro Hs
  ihave Hs := (Entails.of_eq (Splits.bottom (sPt_splits c fullShare (SENDF m ρ c)) c)) $$ Hs
  icases Hs with ⟨Hso, Hs⟩
  iapply (run_tailC m ρ K c Q fy _ fg (acc_own m ρ c _))
  isplitr; · iexact Hc
  isplitl [HO]; · iexact HO
  isplitl [Hs]; · iexact Hs
  isplitl [Hks]; · iexact Hks
  isplitl [Ha]; · iexact Ha
  isplitl [Hg]; · iexact Hg
  isplitl [Hy]; · iexact Hy
  isplitl [Hkit]; · iexact Hkit
  unfold postC
  iintro ⟨Hs, Her, HD⟩
  iapply Hk
  unfold postB
  iexists _
  isplitl [Hst Hso Hs]
  · iapply (Entails.of_eq (Splits.whole (sPt_splits c fullShare (SENDF m ρ c))).symm)
    isplitl [Hst]; · iexact Hst
    iapply (Entails.of_eq (Splits.bottom (sPt_splits c fullShare (SENDF m ρ c)) c).symm)
    isplitl [Hso]; · iexact Hso
    iexact Hs
  isplitl [Hr]; · iexact Hr
  isplitl [He]; · iexact He
  isplitl [Her]; · iexact Her
  iexact HD

/-! ## From the barrier on -/

/-- What the device starts with past its signals, at the semaphores, and ends with. -/
def kitA : sProp 𝕄 :=
  iprop(cred (tallyAt (barCell c) () 16) ∗ atPos ER (barCell c) 0 ∅ 0 ∗ tokR c .s0 ∗ posR c .s0
    ∗ ((bigSepL l15 fun j => tokR c (.rs j)) ∗ (bigSepL l15 fun j => posR c (.rs j)))
    ∗ (bigSepL l15 fun j => tokR c (.ag j)) ∗ (bigSepL l16 fun j => tokR c (.pc j)) ∗ (bigSepL l15 fun j => posR c (.ag j))
    ∗ (bigSepL l16 fun j => posR c (.pc j)))
def inPt : sProp 𝕄 := iprop(xPt m ρ c ∗ qPt m ρ c ∗ oPt m ρ c ∗ kPt m ρ c ∗ vPt m ρ c)
def postA : sProp 𝕄 := iprop(inPt m ρ c ∗ semVal (barCell c) 0 ∗ postB m ρ c)

theorem yX_above : ∀ y ∈ yX, 1 < yLv y := by
  intro y hy
  unfold yX at hy
  rcases List.mem_cons.mp hy with rfl | hy
  · show (1 : ℕ) < 2; decide
  · exact Nat.lt_of_lt_of_le (by decide) (Nat.le_of_lt (yRs_above y hy))

theorem run_tailA (Q : PUnit → sProp 𝕄) (fy fa : Vec F S512x768 .f32) (fg fs : Vec F S512x768 .bf16) :
    iprop(ctx m ρ K ∗ owesE c yX ∗ kitA c ∗ inPt m ρ c ∗ sPt c Finset.univ fullShare fs ∗ aPt c fa
        ∗ gPt c (blk c) fullShare fg ∗ yPt c fy ∗ (postA m ρ c -∗ Q ⟨⟩))
      ⊢ wpB c (tailA c) Q := by
  unfold tailA kitA inPt
  iintro ⟨#Hc, HO, ⟨Hcb, Hpb, Ht0, Hp0, ⟨Hts, Hps⟩, Hta, Htp, Hpa, Hpp⟩, ⟨Hx, Hq, Ho, Hk', Hv⟩, Hs, Ha, Hg, Hy, Hk⟩
  iapply (step_barrier m ρ K c Q _ yX yX_above)
  isplitr; · iexact Hc
  isplitl [HO]; · iexact HO
  isplitl [Hcb]; · iexact Hcb
  isplitl [Hpb]; · iexact Hpb
  iintro ⟨HO, Hr, Hz⟩
  ihave Hr := (show bigSepL l16 (barPay (F := F) c) ⊢ roomAll (tgt c) from Entails.of_eq (room_got c)) $$ Hr
  unfold roomAll
  icases Hr with ⟨⟨Hrs, Hra⟩, Hr0, Hrp⟩
  iapply (ld_q m ρ c Q _)
  isplitl [Hq]; · iexact Hq
  iintro Hq
  iapply (ld_k m ρ c Q _)
  isplitl [Hk']; · iexact Hk'
  iintro Hk'
  iapply (ld_v m ρ c Q _)
  isplitl [Hv]; · iexact Hv
  iintro Hv
  iapply (ld_o m ρ c Q _)
  isplitl [Ho]; · iexact Ho
  iintro Ho
  iapply (ld_x m ρ c Q _ _ _)
  isplitl [Hx]; · iexact Hx
  iintro Hx
  iapply (ld_a c Q _ _ _ fa)
  isplitl [Ha]; · iexact Ha
  iintro Ha
  iapply (st_a c Q _ _ _ _ fa)
  isplitl [Ha]; · iexact Ha
  iintro Ha
  iapply (ld_a c Q _ _ _ _)
  isplitl [Ha]; · iexact Ha
  iintro Ha
  rw [acc_read]
  ihave Hs := (Entails.of_eq (Splits.whole (sPt_splits c fullShare fs))) $$ Hs
  icases Hs with ⟨Hs, Hsb⟩
  iapply (ld_s2 c Q _ _ _ 0 rfl (rows 0 256) (Finset.Subset.refl _) fullShare fs)
  isplitl [Hs]; · iexact Hs
  iintro Hs
  iapply (st_top m ρ c Q _ fs)
  isplitl [Hs]; · iexact Hs
  iintro Hs
  unfold tokR
  icases Ht0 with ⟨Ht1, Ht2⟩
  iapply (step_send m ρ K c Q _ .s0 yRs)
  isplitr; · iexact Hc
  isplitl [HO]; · iexact HO
  isplitl [Ht1]; · iexact Ht1
  isplitl [Ht2]; · iexact Ht2
  isplitl [Hr0]; · iexact Hr0
  isplitl [Hs]
  · iapply (show sPt c (rows 0 256) fullShare (SENDF m ρ c) ⊢ srcAt m ρ c .s0 from Entails.of_eq rfl)
    iexact Hs
  iintro ⟨HO, Hcr⟩
  iapply (ld_x m ρ c Q _ _ _)
  isplitl [Hx]; · iexact Hx
  iintro Hx
  iapply (run_tailB m ρ K c Q fy _ fg fs)
  isplitr; · iexact Hc
  isplitl [HO]; · iexact HO
  isplitl [Hcr]; · unfold credS; iexact Hcr
  isplitl [Hp0]; · iexact Hp0
  isplitl [Hsb]; · iexact Hsb
  isplitl [Hts Hps Hrs]
  · unfold kitS tokR
    isplitl [Hts]; · iexact Hts
    isplitl [Hps] <;> iassumption
  isplitl [Ha]; · iexact Ha
  isplitl [Hg]; · iexact Hg
  isplitl [Hy]; · iexact Hy
  isplitl [Hta Htp Hpa Hpp Hra Hrp]
  · unfold kitG tokR
    isplitl [Hta]; · iexact Hta
    isplitl [Htp]; · iexact Htp
    isplitl [Hpa]; · iexact Hpa
    isplitl [Hpp]; · iexact Hpp
    isplitl [Hra] <;> iassumption
  iintro HB
  iapply Hk
  unfold postA inPt
  isplitl [Hx Hq Ho Hk' Hv]
  · isplitl [Hx]; · iexact Hx
    isplitl [Hq]; · iexact Hq
    isplitl [Ho]; · iexact Ho
    isplitl [Hk'] <;> iassumption
  isplitl [Hz] <;> iassumption

/-! ## The whole body -/

/-- What the device starts with at the semaphores. -/
def kit : sProp 𝕄 := iprop((bigSepL l16 fun k => dutyTok ER (barCell (sp c k)) 0 k) ∗ kitA c)
/-- The counters at zero again. -/
def zeros : sProp 𝕄 :=
  iprop(semVal (barCell c) 0 ∗ endR c .s0 ∗ (bigSepL l15 fun j => endR c (.rs j)) ∗ (bigSepL l15 fun j => endR c (.ag j)) ∗ bigSepL l16 fun j => endR c (.pc j))
/-- What the body leaves. -/
def post : sProp 𝕄 :=
  iprop(owesE c [] ∗ inPt m ρ c ∗ yPt c (OUTF m ρ c) ∗ (∃ f, aPt c f) ∗ (∃ f, sPt c Finset.univ fullShare f) ∗ (∃ f, rPt c Finset.univ fullShare f)
    ∗ (∃ f, gPt c Finset.univ fullShare f) ∗ zeros c)

omit [FloatOps F] in
theorem rPt_join {I J : Finset S512x768.Idx} (h : Disjoint I J) (f g : Vec F S512x768 .bf16) :
    iprop(rPt c I fullShare f ∗ rPt c J fullShare g) ⊢ (iprop(∃ f, rPt c (I ∪ J) fullShare f) : sProp 𝕄) := by
  unfold rPt
  iintro H
  ihave H := (pointsTo_join h) $$ H
  iexists _
  iexact H

/-- The two pieces of the receive buffer that arrived, and the one that no copy fills. -/
theorem recv_join (fr : Vec F S512x768 .bf16) :
    iprop(rPt c (rows 0 256) fullShare (RECVF m ρ c) ∗ rPt c (slot c) fullShare fr ∗ rPt c (slots c) fullShare (RECVF m ρ c))
      ⊢ iprop(∃ f, rPt c Finset.univ fullShare f) := by
  have hd : Disjoint (slot c) (slots c) := by
    refine (Finset.disjoint_biUnion_right _ _ _).mpr fun j _ => ?_
    have h := slot_nb_disjoint c 0 j.succ (Fin.succ_ne_zero j).symm
    rwa [nb_zero, nb_succ] at h
  have hs : slot c ∪ slots c = rows 256 256 := by
    rw [rows_blocks c 256]
    ext i
    unfold slots
    simp only [Finset.mem_union, Finset.mem_biUnion, Finset.mem_univ, true_and, ← nb_succ]
    rw [Fin.exists_fin_succ (P := fun j => i ∈ rows (256 + (grp (nb c j)).val * 16) 16), nb_zero]
  iintro ⟨Ht, Ho, Hs⟩
  ihave Hb := (rPt_join c hd fr (RECVF m ρ c)) $$ [Ho Hs]
  · isplitl [Ho] <;> iassumption
  icases Hb with ⟨%g, Hb⟩
  ihave Hb := (Entails.of_eq (show rPt c (slot c ∪ slots c) fullShare g = rPt c (rows 256 256) fullShare g by rw [hs])) $$ Hb
  ihave Hb := (rPt_join c tb_disjoint (RECVF m ρ c) g) $$ [Ht Hb]
  · isplitl [Ht] <;> iassumption
  icases Hb with ⟨%g', Hb⟩
  iexists g'
  iapply (Entails.of_eq (show rPt c (rows 0 256 ∪ rows 256 256) fullShare g' = rPt c Finset.univ fullShare g' by rw [tb_union]))
  iexact Hb

omit [FloatOps F] in
/-- Any contents make room. -/
theorem room_intro (x : X) (f : Vec F S512x768 .bf16) : dstAt c f x ⊢ room c x := by
  unfold room
  iintro H
  iexists f
  iexact H

/-- The device's number. -/
theorem step_id {α : Type} (Q : α → sProp 𝕄) (kont : Dev nD → P F α) : wpB c (kont c) Q ⊢ wpB c (Prog.lift .deviceId >>= kont) Q := by
  simp only [Prog.lift, Prog.bind_op, Prog.bind_ret]
  exact Entails.of_eq (wp_deviceId 𝒱₀ (c : Thread nD τ) none Set.univ).symm

theorem run_body (Q : PUnit → sProp 𝕄) (fy fa : Vec F S512x768 .f32) (fg fs fr : Vec F S512x768 .bf16) :
    iprop(ctx m ρ K ∗ owesE c yAll ∗ kit c ∗ inPt m ρ c ∗ yPt c fy ∗ aPt c fa ∗ sPt c Finset.univ fullShare fs ∗ rPt c Finset.univ fullShare fr
        ∗ gPt c Finset.univ fullShare fg ∗ (post m ρ c -∗ Q ⟨⟩))
      ⊢ wpB c body Q := by
  unfold body kit
  iintro ⟨#Hc, HO, ⟨Ht, Hkit⟩, Hin, Hy, Ha, Hs, Hr, Hg, Hk⟩
  iapply (step_id c Q _)
  ihave Hr := (Entails.of_eq ((Splits.whole (rPt_splits c fullShare fr)).trans (congrArg (fun P => iprop(rPt c (rows 0 256) fullShare fr ∗ P))
    (Splits.bottom (rPt_splits c fullShare fr) c)))) $$ Hr
  icases Hr with ⟨Hr0, Hro, Hrs⟩
  ihave Hg := (Entails.of_eq (Splits.halves (gPt_splits c fullShare fg) c)) $$ Hg
  icases Hg with ⟨Hg, Hgs⟩
  ihave Hg := (Entails.of_eq (half_peers c fullShare fg)) $$ Hg
  icases Hg with ⟨Hg, Hgp⟩
  ihave Hgs := (Entails.of_eq (half_sibs c fg)) $$ Hgs
  iapply (ph_signals m ρ K c Q _)
  isplitr; · iexact Hc
  isplitl [HO]; · iexact HO
  isplitl [Ht]; · iexact Ht
  isplitl [Hr0 Hrs Hgp Hgs]
  · unfold roomAll
    isplitl [Hrs Hgp]
    · isplitl [Hrs]
      · iapply (bigSepL_mono fun j _ => (room_intro c (.rs j) fr))
        iexact Hrs
      iapply (bigSepL_mono fun j _ => (room_intro c (.ag j) fg))
      iexact Hgp
    isplitl [Hr0]
    · iapply (show rPt c (rows 0 256) fullShare fr ⊢ room c .s0 from room_intro c .s0 fr); iexact Hr0
    iapply (bigSepL_mono fun j _ => (room_intro c (.pc j) fg))
    iexact Hgs
  iintro HO
  iapply (run_tailA m ρ K c Q fy fa fg fs)
  isplitr; · iexact Hc
  isplitl [HO]; · iexact HO
  isplitl [Hkit]; · iexact Hkit
  isplitl [Hin]; · iexact Hin
  isplitl [Hs]; · iexact Hs
  isplitl [Ha]; · iexact Ha
  isplitl [Hg]; · iexact Hg
  isplitl [Hy]; · iexact Hy
  unfold postA postB postD postE endG
  iintro ⟨Hin, Hzb, %fa', Hs, Hr0, He0, Hes, Ha, Hrs, HO, Hg, Hy, Hea, Hep⟩
  iapply Hk
  unfold post zeros
  isplitl [HO]; · iexact HO
  isplitl [Hin]; · iexact Hin
  isplitl [Hy]; · iexact Hy
  isplitl [Ha]; · iexists fa'; iexact Ha
  isplitl [Hs]; · iexists _; iexact Hs
  isplitl [Hr0 Hro Hrs]
  · iapply (recv_join m ρ c fr)
    isplitl [Hr0]; · iexact Hr0
    isplitl [Hro] <;> iassumption
  isplitl [Hg]; · iexists _; iexact Hg
  isplitl [Hzb]; · iexact Hzb
  isplitl [He0]; · iexact He0
  isplitl [Hes]; · iexact Hes
  isplitl [Hea] <;> iassumption

end Tails

end Cert.Htp

end
-- ==== Proof.K.Deal.lean ====
/-
What the launch deals each device: the cells, the duty tokens sent to their payers, the credits.
-/
module

public import proofs.«01_k».proof.Proof.K.Body

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The copies and the cells in a row -/

omit [FloatOps F] in
/-- All the copies, phase by phase. -/
theorem allX_chain (Φ : X → sProp (MT nD τ sig Unit (Elt F) ℕ UU ℕ)) : bigSepL allX Φ = famX Φ := by
  unfold allX famX
  rw [bigSepL_cons' X.s0, bigSepL_append, bigSepL_append, bigSepL_map, bigSepL_map, bigSepL_map]

/-- All the cells of a device. -/
def allCk : List Ck := none :: (allX.map (fun x => some (.inl x)) ++ allX.map fun x => some (.inr x))
omit [FloatOps F] in
theorem cells_chain (Φ : Ck → sProp (MT nD τ sig Unit (Elt F) ℕ UU ℕ)) :
    bigSep Finset.univ Φ = iprop(Φ none ∗ (bigSepL allX fun x => Φ (some (.inl x))) ∗ bigSepL allX fun x => Φ (some (.inr x))) := by
  rw [bigSep_univ_eq_bigSepL allCk (by decide +kernel) (by decide +kernel)]
  unfold allCk
  rw [bigSepL_cons' (none : Ck), bigSepL_append, bigSepL_map, bigSepL_map]

theorem csem_injective : Function.Injective csem := by
  intro a b h
  rcases a with _ | x | x <;> rcases b with _ | y | y <;> first | rfl | cases h | skip
  · have h' : role (sSem x.ix) = role (sSem y.ix) := congrArg role (SemLoc.dma.inj h)
    rw [role_s, role_s] at h'; cases h'; rfl
  · have h' : role (sSem x.ix) = role (rSem y.ix) := congrArg role (SemLoc.dma.inj h)
    rw [role_s, role_r] at h'; cases h'
  · have h' : role (rSem x.ix) = role (sSem y.ix) := congrArg role (SemLoc.dma.inj h)
    rw [role_r, role_s] at h'; cases h'
  · have h' : role (rSem x.ix) = role (rSem y.ix) := congrArg role (SemLoc.dma.inj h)
    rw [role_r, role_r] at h'; cases h'; rfl
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- Every cell of the protocol. -/
def cellsK : Finset (GSem nD τ sig) := Finset.univ.map ⟨kcell, kcell_injective⟩

/-! ## The duty tokens -/

/-- The duties of one device's cells: the barrier's sixteen, and one at each end of each copy. -/
abbrev Tk : Type := Fin 16 ⊕ X ⊕ X
abbrev tokAt (p : Dev nD × Tk) : GSem nD τ sig × ℕ × Fin 16 := match p.2 with
  | .inl k => (barCell p.1, 0, k)
  | .inr (.inl x) => (sCell p.1 x, 0, 0)
  | .inr (.inr x) => (rCell p.1 x, 0, 0)
theorem tokAt_injective : Function.Injective tokAt := by
  rintro ⟨c, t⟩ ⟨c', t'⟩ h
  have h1 : c = c' := by
    have := congrArg (fun x : GSem nD τ sig × ℕ × Fin 16 => x.1.1.1) h
    rcases t with k | x | x <;> rcases t' with k' | x' | x' <;> exact this
  subst h1
  refine congrArg (Prod.mk c) ?_
  have hs : (tokAt (c, t)).1.2 = (tokAt (c, t')).1.2 := congrArg (fun x : GSem nD τ sig × ℕ × Fin 16 => x.1.2) h
  have hd : (tokAt (c, t)).2.2 = (tokAt (c, t')).2.2 := congrArg (fun x : GSem nD τ sig × ℕ × Fin 16 => x.2.2) h
  rcases t with k | x | x <;> rcases t' with k' | x' | x'
  · exact congrArg Sum.inl hd
  · exact nomatch csem_injective (a₁ := none) (a₂ := some (.inl x')) hs
  · exact nomatch csem_injective (a₁ := none) (a₂ := some (.inr x')) hs
  · exact nomatch csem_injective (a₁ := some (.inl x)) (a₂ := none) hs
  · have := csem_injective (a₁ := some (.inl x)) (a₂ := some (.inl x')) hs; cases this; rfl
  · exact nomatch csem_injective (a₁ := some (.inl x)) (a₂ := some (.inr x')) hs
  · exact nomatch csem_injective (a₁ := some (.inr x)) (a₂ := none) hs
  · exact nomatch csem_injective (a₁ := some (.inr x)) (a₂ := some (.inl x')) hs
  · have := csem_injective (a₁ := some (.inr x)) (a₂ := some (.inr x')) hs; cases this; rfl
def toksK : Finset (GSem nD τ sig × ℕ × Fin 16) := Finset.univ.map ⟨tokAt, tokAt_injective⟩

/-- Whose duty a token is: the payer pays at another device's cell, or at its own send cell. -/
def payAt (p : Dev nD × Tk) : Dev nD × Tk := match p.2 with
  | .inl k => (sp p.1 k, .inl k)
  | .inr (.inl x) => (p.1, .inr (.inl x))
  | .inr (.inr x) => (tgt p.1 x, .inr (.inr x))
theorem payAt_payAt (p : Dev nD × Tk) : payAt (payAt p) = p := by
  obtain ⟨c, k | x | x⟩ := p
  · show (sp (sp c k) k, _) = _; rw [sp_sp]
  · rfl
  · show (tgt (tgt c x) x, _) = _; rw [tgt_tgt]
def payEquiv : Dev nD × Tk ≃ Dev nD × Tk := ⟨payAt, payAt, payAt_payAt, payAt_payAt⟩

def tok (p : Dev nD × Tk) : sProp (MT nD τ sig Unit (Elt F) ℕ UU ℕ) := dutyTok ER (tokAt p).1 (tokAt p).2.1 (tokAt p).2.2
/-- The duty tokens of a device's own cells, and of the duties it pays. -/
def toks (c : Dev nD) : sProp (MT nD τ sig Unit (Elt F) ℕ UU ℕ) := bigSep Finset.univ fun t : Tk => tok (c, t)
def payToks (c : Dev nD) : sProp (MT nD τ sig Unit (Elt F) ℕ UU ℕ) := bigSep Finset.univ fun t : Tk => tok (payAt (c, t))

omit [FloatOps F] in
theorem toks_dealt : (bigSep Finset.univ fun c : Dev nD => (toks c : sProp (MT nD τ sig Unit (Elt F) ℕ UU ℕ))) = bigSep Finset.univ fun c : Dev nD => payToks c := by
  unfold toks payToks
  rw [← bigSep_univ_prod (fun p : Dev nD × Tk => tok (F := F) p), bigSep_univ_equiv payEquiv,
    ← bigSep_univ_prod (fun p : Dev nD × Tk => tok (F := F) (payAt p))]
  rfl

def allTk : List Tk := l16.map .inl ++ (allX.map (fun x => .inr (.inl x)) ++ allX.map fun x => .inr (.inr x))
omit [FloatOps F] in
theorem payToks_eq (c : Dev nD) : (payToks c : sProp (MT nD τ sig Unit (Elt F) ℕ UU ℕ))
    = iprop((bigSepL l16 fun k => dutyTok ER (barCell (sp c k)) 0 k) ∗ bigSepL allX fun x => tokR c x) := by
  unfold payToks tokR
  rw [bigSep_univ_eq_bigSepL allTk (by decide +kernel) (by decide +kernel), chain_sep]
  unfold allTk
  rw [bigSepL_append, bigSepL_append, bigSepL_map, bigSepL_map, bigSepL_map]
  rfl

/-! ## The credits -/

/-- The device's own cell that a payment of its kind goes to. -/
def ownCell (c : Dev nD) : Y → GSem nD τ sig
  | .inl _ => barCell c
  | .inr x => rCell c x

omit [FloatOps F] in
theorem creds_chain (l : List Y) (c : Dev nD) : (Pipeline.launchCred (fun d => owedL d l) c : sProp (MT nD τ sig Unit (Elt F) ℕ UU ℕ))
    ⊢ bigSepL l fun y => cred (tallyAt (ownCell c y) () (yAmt y)) := by
  induction l with
  | nil => exact Entails.of_eq (Pipeline.launchCred_zero c)
  | cons y l ih =>
    rw [bigSepL_cons', show (fun d => owedL d (y :: l)) = fun d => owedL d l + tallyAt (yCell d y) () (yAmt y) from rfl, Pipeline.launchCred_add]
    have h : (Pipeline.launchCred (fun d => tallyAt (yCell d y) () (yAmt y)) c : sProp (MT nD τ sig Unit (Elt F) ℕ UU ℕ))
        ⊢ cred (tallyAt (ownCell c y) () (yAmt y)) := by
      rcases y with k | x
      · exact Pipeline.launchCred_tallyAt (.reg barS) (fun d => sp d k) (fun d => sp d k) (fun d => sp_sp d k) (fun d => sp_sp d k) () 1 c
      · exact Pipeline.launchCred_tallyAt (.dma (rSem x.ix)) (fun d => tgt d x) (fun d => tgt d x) (fun d => tgt_tgt d x) (fun d => tgt_tgt d x) () (amt x) c
    iintro ⟨H1, H2⟩
    isplitl [H2]
    · iapply h; iexact H2
    iapply ih; iexact H1

omit [FloatOps F] in
/-- Credits of one unit each add up. -/
theorem cred_units {β : Type} (g : GSem nD τ sig) (l : List β) :
    (bigSepL l fun _ => (cred (tallyAt g () 1) : sProp (MT nD τ sig Unit (Elt F) ℕ UU ℕ))) ⊢ cred (tallyAt g () l.length) := by
  induction l with
  | nil =>
    rw [show (tallyAt g () (List.length ([] : List β)) : CellTallies nD τ sig Unit) = 0 from by
      unfold tallyAt; rw [List.length_nil, Finsupp.single_zero, tallyOn_zero], cred_zero]
    exact .rfl
  | cons a l ih =>
    rw [bigSepL_cons', show (tallyAt g () (a :: l).length : CellTallies nD τ sig Unit) = tallyAt g () 1 + tallyAt g () l.length from by
      unfold tallyAt; rw [List.length_cons, Nat.add_comm, Finsupp.single_add, tallyOn_add]]
    exact (sep_mono_right ih).trans (cred_add _ _).2

omit [FloatOps F] in
theorem creds (c : Dev nD) : (Pipeline.launchCred (fun d => owedL d yAll) c : sProp (MT nD τ sig Unit (Elt F) ℕ UU ℕ))
    ⊢ iprop(cred (tallyAt (barCell c) () 16) ∗ bigSepL allX fun x => cred (tallyAt (rCell c x) () (amt x))) := by
  refine (creds_chain yAll c).trans ?_
  unfold yAll
  rw [bigSepL_append, bigSepL_map]
  have h : (bigSepL yX fun y => (cred (tallyAt (ownCell c y) () (yAmt y)) : sProp (MT nD τ sig Unit (Elt F) ℕ UU ℕ)))
      ⊢ bigSepL allX fun x => cred (tallyAt (rCell c x) () (amt x)) := by
    unfold yX yRs yAg yPc
    rw [allX_chain, bigSepL_cons' (Sum.inr X.s0 : Y), bigSepL_append, bigSepL_cons' (Sum.inr (X.pc 0) : Y), bigSepL_append, bigSepL_map, bigSepL_map, bigSepL_map]
    unfold famX
    rw [chain16]
    iintro ⟨H0, Hs, Hp, Ha, Hps⟩
    isplitl [H0]; · iexact H0
    isplitl [Hs]; · iexact Hs
    isplitl [Ha]; · iexact Ha
    isplitl [Hp]; · iexact Hp
    iexact Hps
  exact BIClass.sep_mono (cred_units (barCell c) l16) h

/-! ## A device's start -/

/-- Its positions. -/
def poss (c : Dev nD) : sProp (MT nD τ sig Unit (Elt F) ℕ UU ℕ) := bigSep Finset.univ fun k : Ck => atPos ER (kcell (c, k)) 0 ∅ 0

omit [FloatOps F] in
theorem kit_intro (c : Dev nD) : iprop(poss c ∗ payToks c ∗ Pipeline.launchCred (fun d => owedL d yAll) c) ⊢ (kit c : sProp (MT nD τ sig Unit (Elt F) ℕ UU ℕ)) := by
  unfold poss
  rw [cells_chain, payToks_eq]
  have h : iprop((bigSepL allX fun x => (atPos ER (sCell c x) 0 ∅ 0 : sProp (MT nD τ sig Unit (Elt F) ℕ UU ℕ)))
      ∗ (bigSepL allX fun x => atPos ER (rCell c x) 0 ∅ 0) ∗ bigSepL allX fun x => cred (tallyAt (rCell c x) () (amt x))) ⊢ famX (posR c) := by
    rw [← chain_sep, ← chain_sep, ← allX_chain]
    exact .rfl
  iintro ⟨⟨Hb, Hps, Hpr⟩, ⟨Hbt, Ht⟩, Hcr⟩
  ihave Hcr := (creds c) $$ Hcr
  icases Hcr with ⟨Hcb, Hcr⟩
  ihave Hp := h $$ [Hps Hpr Hcr]
  · isplitl [Hps]; · iexact Hps
    isplitl [Hpr]; · iexact Hpr
    iexact Hcr
  ihave Ht := (Entails.of_eq (allX_chain (fun x => tokR (F := F) c x))) $$ Ht
  unfold famX kit kitA
  icases Hp with ⟨Hp0, Hps, Hpa, Hpp⟩
  icases Ht with ⟨Ht0, Hts, Hta, Htp⟩
  isplitl [Hbt]; · iexact Hbt
  isplitl [Hcb]; · iexact Hcb
  isplitl [Hb]; · iexact Hb
  isplitl [Ht0]; · iexact Ht0
  isplitl [Hp0]; · iexact Hp0
  isplitl [Hts Hps]
  · isplitl [Hts] <;> iassumption
  isplitl [Hta]; · iexact Hta
  isplitl [Htp]; · iexact Htp
  isplitl [Hpa] <;> iassumption

/-- The device's own semaphores: both ends of every copy. -/
abbrev osem (k : X ⊕ X) : SemLoc sig := csem (some k)
theorem ownSemFacts : Pipeline.OwnSemFacts cfg0.spec osem :=
  ⟨by decide +kernel, fun a b h => Option.some.inj (csem_injective h), fun k => by
    have h : ∀ (i : Fin 47) (w : Fin 6) (s : Fin (spec0 w).nbuf), sSem i ≠ (spec0 w).sem s ∧ rSem i ≠ (spec0 w).sem s := by decide +kernel
    intro w s he
    rcases k with x | x
    · exact (h x.ix w s).1 (SemLoc.dma.inj he)
    · exact (h x.ix w s).2 (SemLoc.dma.inj he)⟩

omit [FloatOps F] in
theorem unscoped_eq (c : Dev nD) : (unscopedSems0 c : sProp (MT nD τ sig Unit (Elt F) ℕ UU ℕ)) = semVal (barCell c) 0 := by
  unfold unscopedSems0; rw [bigSep_eq_bigSepL_of_eq [SemLoc.reg barS] (by decide +kernel) (by decide +kernel)]; rfl
omit [FloatOps F] in
theorem own_chain (c : Dev nD) : (Pipeline.ownSems0 (Ix := Unit) (Name := ℕ) (U := UU) (Lvl := ℕ) (Val := Elt F) (τ := τ) osem c : sProp (MT nD τ sig Unit (Elt F) ℕ UU ℕ))
    = iprop((bigSepL allX fun x => semVal (sCell c x) 0) ∗ bigSepL allX fun x => semVal (rCell c x) 0) := by
  rw [Pipeline.ownSems0_eq_of_list c osem (allX.map .inl ++ allX.map .inr) (by decide +kernel) (by decide +kernel), bigSepL_append, bigSepL_map, bigSepL_map]
  rfl
omit [FloatOps F] in
/-- Every cell of a device at zero, from its own semaphores and the barrier; and back. -/
theorem sems_eq (c : Dev nD) : (bigSep Finset.univ fun k : Ck => semVal (kcell (c, k)) 0 : sProp (MT nD τ sig Unit (Elt F) ℕ UU ℕ))
    = iprop(unscopedSems0 c ∗ Pipeline.ownSems0 (Ix := Unit) (Name := ℕ) (U := UU) (Lvl := ℕ) (Val := Elt F) (τ := τ) osem c) := by
  rw [cells_chain, own_chain, unscoped_eq]
  rfl
omit [FloatOps F] in
theorem zeros_eq (c : Dev nD) : (zeros c : sProp (MT nD τ sig Unit (Elt F) ℕ UU ℕ))
    = iprop(unscopedSems0 c ∗ Pipeline.ownSems0 (Ix := Unit) (Name := ℕ) (U := UU) (Lvl := ℕ) (Val := Elt F) (τ := τ) osem c) := by
  rw [own_chain, unscoped_eq, ← chain_sep, allX_chain]
  rfl

end Cert.Htp

end
-- ==== Proof.K.Launch.lean ====
/-
The launch: the pipeline around the body, and the whole run on 32 devices.
-/
module

public import proofs.«01_k».proof.Proof.K.Deal
public import Idealize.ShloMosaic.Lib.Pipeline.CollectiveSegs

@[expose] public section

noncomputable section

namespace Cert.Htp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The scratch buffers, at anything. -/
def scr (c : Dev nD) : sProp (MT nD τ sig Unit (Elt F) ℕ UU ℕ) :=
  iprop((∃ f, aPt c f) ∗ (∃ f, sPt c Finset.univ fullShare f) ∗ (∃ f, rPt c Finset.univ fullShare f) ∗ ∃ f, gPt c Finset.univ fullShare f)
/-- What a device's body starts from. -/
def start (c : Dev nD) : sProp 𝕄 := iprop(∃ K, ctx m ρ K ∗ kit c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wq m ρ c
    | ⟨2, _⟩ => wo m ρ c
    | ⟨3, _⟩ => wk m ρ c
    | ⟨4, _⟩ => wv m ρ c
    | ⟨5, _⟩ => OUTF m ρ c
  Φ t := match t with
    | ⟨0, _⟩ => iprop(start m ρ c ∗ scr c)
    | ⟨_ + 1, _⟩ => iprop(scr c ∗ zeros c)
  q _ := fullShare
  owed t := match t with
    | ⟨0, _⟩ => owedL c yAll
    | ⟨_ + 1, _⟩ => 0

theorem fetch_in (w : Fin 6) (h : w ≠ 5) (t : Fin cfg0.N) : (cfg0.win w).fetch t = true := by
  rw [fin_N0 t]; fin_cases w <;> first | rfl | exact absurd rfl h

omit [FloatOps F] in
theorem owns_whole_eq (c : Dev nD) (b : Ref sig .tc) (v : b.ty.Contents (Elt F)) :
    (owns (Ix := Unit) (Name := ℕ) (U := UU) (Lvl := ℕ) (c : Thread nD τ) (Memref.whole b) fullShare v : sProp (MT nD τ sig Unit (Elt F) ℕ UU ℕ))
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-- A staging buffer, whole at contents `v`. -/
abbrev stg (c : Dev nD) (b : Ref sig .tc) (v : b.ty.Contents (Elt F)) : sProp (MT nD τ sig Unit (Elt F) ℕ UU ℕ) :=
  iprop(∃ f : Buf (Elt F) (((c : Dev nD) : Thread nD τ).loc b), ⌜f = v⌝ ∗ (((c : Thread nD τ).loc b) ↦{fullShare} f))

def bodyPre (c : Dev nD) : sProp 𝕄 :=
  iprop((start m ρ c ∗ scr c) ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop((scr c ∗ zeros c) ∗ (dats m ρ 0 c).owesAt () t0_0.succ
    ∗ stg c cc0_stg0_0 (xs m ρ c) ∗ stg c cc0_stg1_0 (wq m ρ c) ∗ stg c cc0_stg2_0 (wo m ρ c) ∗ stg c cc0_stg3_0 (wk m ρ c) ∗ stg c cc0_stg4_0 (wv m ρ c)
    ∗ stg c cc0_stg5_0 (OUTF m ρ c))

theorem post_intro (c : Dev nD) : post m ρ c ⊢ bodyPost m ρ c := by
  unfold post bodyPost inPt xPt qPt oPt kPt vPt yPt scr owesE Dat.owesAt Pipeline.owesWithin
  rw [show (dats m ρ 0 c).owed t0_0.succ = 0 from rfl]
  iintro ⟨⟨%W, HO⟩, ⟨Hx, Hq, Ho, Hk, Hv⟩, Hy, Ha, Hs, Hr, Hg, Hz⟩
  isplitl [Ha Hs Hr Hg Hz]
  · isplitl [Ha Hs Hr Hg]
    · isplitl [Ha]; · iexact Ha
      isplitl [Hs]; · iexact Hs
      isplitl [Hr]; · iexact Hr
      iexact Hg
    iexact Hz
  isplitl [HO]
  · iexists W
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Ho]
  · iexists _; isplitr; · (ipureintro; rfl)
    iexact Ho
  isplitl [Hk]
  · iexists _; isplitr; · (ipureintro; rfl)
    iexact Hk
  isplitl [Hv]
  · iexists _; isplitr; · (ipureintro; rfl)
    iexact Hv
  iexists _; isplitr; · (ipureintro; rfl)
  iexact Hy

theorem pre_elim (c : Dev nD) : bodyPre m ρ c ⊢ iprop(∃ K fy fa fs fr fg, ctx m ρ K ∗ owesE c yAll ∗ kit c ∗ inPt m ρ c ∗ yPt c fy ∗ aPt c fa
    ∗ sPt c Finset.univ fullShare fs ∗ rPt c Finset.univ fullShare fr ∗ gPt c Finset.univ fullShare fg) := by
  unfold bodyPre start scr Dat.owesAt Pipeline.owesWithin
  rw [show (dats m ρ 0 c).owed t0_0.castSucc = owedL c yAll from rfl]
  iintro ⟨⟨⟨%K, #Hc, Hkit⟩, ⟨%fa, Ha⟩, ⟨%fs, Hs⟩, ⟨%fr, Hr⟩, ⟨%fg, Hg⟩⟩, ⟨%W, %hW, HO⟩, ⟨%d0, %g0, %h0, Hx⟩, ⟨%d1, %g1, %h1, Hq⟩, ⟨%d2, %g2, %h2, Ho⟩, ⟨%d3, %g3, %h3, Hk⟩, ⟨%d4, %g4, %h4, Hv⟩, ⟨%d5, %fy, %h5, Hy⟩⟩
  have e0 : g0 = xs m ρ c := by rw [h0]; unfold Dat.before; rw [if_pos (fetch_in 0 (by decide) t0_0)]; rfl
  subst e0
  have e1 : g1 = wq m ρ c := by rw [h1]; unfold Dat.before; rw [if_pos (fetch_in 1 (by decide) t0_0)]; rfl
  subst e1
  have e2 : g2 = wo m ρ c := by rw [h2]; unfold Dat.before; rw [if_pos (fetch_in 2 (by decide) t0_0)]; rfl
  subst e2
  have e3 : g3 = wk m ρ c := by rw [h3]; unfold Dat.before; rw [if_pos (fetch_in 3 (by decide) t0_0)]; rfl
  subst e3
  have e4 : g4 = wv m ρ c := by rw [h4]; unfold Dat.before; rw [if_pos (fetch_in 4 (by decide) t0_0)]; rfl
  subst e4
  iexists K; iexists fy; iexists fa; iexists fs; iexists fr; iexists fg
  isplitr; · iexact Hc
  isplitl [HO]
  · unfold owesE; iexists W; iexact HO
  isplitl [Hkit]; · iexact Hkit
  isplitl [Hx Hq Ho Hk Hv]
  · unfold inPt xPt qPt oPt kPt vPt
    isplitl [Hx]; · iexact Hx
    isplitl [Hq]; · iexact Hq
    isplitl [Ho]; · iexact Ho
    isplitl [Hk]; · iexact Hk
    iexact Hv
  isplitl [Hy]; · unfold yPt; iexact Hy
  isplitl [Ha]; · iexact Ha
  isplitl [Hs]; · iexact Hs
  isplitl [Hr]; · iexact Hr
  iexact Hg

set_option maxRecDepth 200000 in
/-- The library's body obligation on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  show bodyPre m ρ c ⊢ wpB c (cc0_body (F := F) xM (Memref.isWhole_whole _) qM (Memref.isWhole_whole _) oM (Memref.isWhole_whole _) kM (Memref.isWhole_whole _)
    vM (Memref.isWhole_whole _) yM (Memref.isWhole_whole _) accM (Memref.isWhole_whole _) sM (Memref.isWhole_whole _) rM (Memref.isWhole_whole _)
    gM (Memref.isWhole_whole _) cc0_scratch4 cc0_scratch5) (fun _ => bodyPost m ρ c)
  rw [body_eq]
  refine (pre_elim m ρ c).trans ?_
  iintro ⟨%K, %fy, %fa, %fs, %fr, %fg, Hc, HO, Hkit, Hin, Hy, Ha, Hs, Hr, Hg⟩
  iapply (run_body m ρ K c (fun _ => bodyPost m ρ c) fy fa fg fs fr)
  isplitl [Hc]; · iexact Hc
  isplitl [HO]; · iexact HO
  isplitl [Hkit]; · iexact Hkit
  isplitl [Hin]; · iexact Hin
  isplitl [Hy]; · iexact Hy
  isplitl [Ha]; · iexact Ha
  isplitl [Hs]; · iexact Hs
  isplitl [Hr]; · iexact Hr
  isplitl [Hg]; · iexact Hg
  iapply (post_intro m ρ c)

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf cellsK toksK)

/-- What the launch element deals device `c`; and what the global step makes of it. -/
def G (c : Dev nD) : sProp 𝕄 :=
  iprop((bigSep Finset.univ fun k : Ck => roundState ER (Rd m ρ) (kcell (c, k)) 0)
    ∗ (bigSep Finset.univ fun k : Ck => iprop(atPos ER (kcell (c, k)) 0 ∅ 0 ∗ reached ER (kcell (c, k)) 0)) ∗ toks c)
def G' (c : Dev nD) : sProp 𝕄 := iprop(∃ K, records m ρ K ∗ poss c ∗ payToks c)

theorem fund_cells : BI.own (ER (initOf cellsK toksK)) ⊢ (|==> bigSep Finset.univ (G m ρ) : sProp 𝕄) := by
  have hX (Φ : GSem nD τ sig → sProp 𝕄) : bigSep cellsK Φ = bigSep Finset.univ fun c : Dev nD => bigSep Finset.univ fun k : Ck => Φ (kcell (c, k)) := by
    unfold cellsK; rw [bigSep_map, bigSep_univ_prod]; rfl
  have hT : bigSep toksK (fun x => (dutyTok ER x.1 x.2.1 x.2.2 : sProp 𝕄)) = bigSep Finset.univ fun c : Dev nD => toks c := by
    unfold toksK; rw [bigSep_map, bigSep_univ_prod]; rfl
  iintro HX
  imod (Rounds.fund ER (Rd m ρ) cellsK toksK) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Ck => semVal (kcell (c, k)) 0) ∗ bigSep Finset.univ fun k : Ck => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun p : Dev nD × Ck => iprop(∃ κ : ℕ, cellInv ER (Rd m ρ) κ (kcell p))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun p : Dev nD × Ck => (reached ER (kcell p) 0 : sProp 𝕄)), toks_dealt]
  iintro ⟨HI, ⟨Hat, #HR⟩, Htok⟩
  ihave HK := (BI.bigSep_exists_pi Finset.univ (fun (p : Dev nD × Ck) (κ : ℕ) => (cellInv ER (Rd m ρ) κ (kcell p) : sProp 𝕄))) $$ HI
  icases HK with ⟨%K, #HI⟩
  iapply (bigSep_with (R := records m ρ K) (Φ := fun c => iprop(poss c ∗ payToks c)) (Ψ := G' m ρ) fun c _ => by
    unfold G'; iintro ⟨Hr, Hp⟩; iexists K; isplitl [Hr] <;> iassumption)
  isplitr
  · unfold records; isplitl; · iexact HI
    iexact HR
  · rw [bigSep_sep']
    isplitl [Hat]
    · unfold poss; iexact Hat
    iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred (fun d => owedL d yAll) c ∗ prngReg c (ρ c) ∗ G' m ρ c)
      ⊢ |={Set.univ}=> iprop(start m ρ c ∗ emp) := by
  unfold start G' ctx
  iintro ⟨-, Hlev, Hcr, -, ⟨%K, Hr, Hp, Ht⟩⟩
  imodintro
  isplitl
  · iexists K
    isplitl [Hr Hlev]
    · isplitl [Hr] <;> iassumption
    iapply (kit_intro c)
    isplitl [Hp]; · iexact Hp
    isplitl [Ht] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scr c) from rfl, scopedRest0_eq]
  unfold scr aPt sPt rPt gPt
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr c ∗ zeros c) from rfl, scopedRest0_eq, zeros_eq]
  unfold scr aPt sPt rPt gPt
  iintro ⟨Hr, Hu, Ho⟩
  isplitl [Hu]; · iexact Hu
  isplitl [Ho]; · iexact Ho
  iexact Hr

theorem stage_low (w : Fin cfg0.W) (s : Fin (cfg0.win w).nbuf) : smLv (.dma ((cfg0.win w).sem s)) = 0 := by
  fin_cases w <;> fin_cases s <;> decide +kernel

set_option maxRecDepth 65536 in
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c (.dma ((cfg0.win w).sem s)) yAll fun y _ => by rw [stage_low]; exact yLv_pos y
    · exact mayWait c (.dma ((cfg0.win w).sem s)) [] fun y hy => nomatch hy

/-! ## The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- Every weakly fair execution of the program on the 32 devices ends, and ends with every window's array at its computed
    contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedL d yAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin 6) (h : (cfg0.win w).isOut = false) : finalA m ρ c w = (s₀ m ρ).mem ((cfg0.win w).arr.view.loc (c : Thread nD τ)) :=
  (dats (F := F) m ρ 0 c).arrAt_in w h _

end Cert.Htp

end
-- ==== Proof.K.Frames.lean ====
/-
The three frames: the kernel as printed, the kernel read over the extended reals, and the reference.
-/
module

public import proofs.«01_k».proof.Defs
public import proofs.«01_k».proof.Proof.K.Launch
public import proofs.«01_k».proof.Proof.Gen.Kernel
public import proofs.«01_k».proof.Proof.Gen.ReferenceIdeal.Run

@[expose] public section

noncomputable section

namespace Cert.Htp

open Idealize.ShloMosaic Idealize.SL.Sem
open Cert.KernelIdeal Cert.KernelIdeal.Gen

set_option maxRecDepth 65536

/-- The run's arrays, for any float values: the result, and the inputs as they were. -/
theorem run_kernel {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h.1 c (5 : Fin 6),
    (h.1 c (0 : Fin 6)).trans (finalA_in m ρ c 0 rfl), (h.1 c (1 : Fin 6)).trans (finalA_in m ρ c 1 rfl),
    (h.1 c (3 : Fin 6)).trans (finalA_in m ρ c 3 rfl), (h.1 c (4 : Fin 6)).trans (finalA_in m ρ c 4 rfl),
    (h.1 c (2 : Fin 6)).trans (finalA_in m ρ c 2 rfl)⟩, h.2⟩) (run_main m ρ)

/-- The inputs end as they were and every semaphore at zero, for any float values. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_kernel m ρ)

theorem frame_ideal : Cert.quiescent_KernelIdeal := fun m ρ _ => frame_any (F := Ideal) m ρ

/-! The kernel as printed is the same program: its table of bodies agrees entry by entry. -/

theorem bodies_same : (Cert.Kernel.defs₀ (F := Bits)) = defs₀ (F := Bits) := by
  refine congrArg (Defs.onTc (nD := nD) (τ := τ) (sig := sig) (Val := Elt Bits) (Λ := Λ₀)) ?_
  funext l a
  obtain ⟨l, hl⟩ := l
  cases l with
  | zero => rfl
  | succ l => exact absurd hl (Nat.not_lt.2 (Nat.le_add_left _ _))
theorem tables_same : (Cert.Kernel.defs (F := Bits)) = defs (F := Bits) := congrArg (Pipeline.defs (pcfgs (F := Bits))) bodies_same

theorem frame_kernel : Cert.quiescent_Kernel := fun m ρ _ => by
  rw [tables_same]
  exact frame_any (F := Bits) m ρ

theorem frame_reference : Cert.quiescent_ReferenceIdeal := fun m ρ _ =>
  (θ_run (Cert.ReferenceIdeal.defs (F := Ideal)) _ _).mono (fun r h => ⟨fun c => (h c).2, sem_eq_zero_of_no_sems (by decide) r.2⟩) (Cert.ReferenceIdeal.Value.run (F := Ideal) m ρ)

end Cert.Htp

end
-- ==== Proof.K.ValMath.lean ====
/-
Sums and quotients of extended reals: taking a real number off every score of a row leaves its attention as it was.
-/
module

public import Idealize.ShloMosaic.PureOps.Ideal.Laws

@[expose] public section

noncomputable section

namespace Cert.Htp

open Idealize.ShloMosaic
open scoped BigOperators

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real number that is not negative distributes over any sum. -/
theorem real_mul_sum {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

theorem exp_coe (r : ℝ) : Ideal.exp (r : EReal) = ((Real.exp r : ℝ) : EReal) := rfl

/-- The weights' common factor cancels: scores less a real number give the same attention. -/
theorem attn_shift (σ : Fin 256 → ℝ) (M : ℝ) (v : Fin 256 → EReal) :
    Ideal.div (∑ j, v j * Ideal.exp ((σ j : EReal) - (M : EReal))) (∑ j, Ideal.exp ((σ j : EReal) - (M : EReal)))
      = Ideal.div (∑ j, Ideal.exp (σ j : EReal) * v j) (∑ j, Ideal.exp (σ j : EReal)) := by
  have he : ∀ j, Ideal.exp ((σ j : EReal) - (M : EReal)) = ((Real.exp (-M) : ℝ) : EReal) * ((Real.exp (σ j) : ℝ) : EReal) := fun j => by
    rw [← EReal.coe_sub, exp_coe, ← EReal.coe_mul, ← Real.exp_add]
    exact congrArg (fun z : ℝ => ((Real.exp z : ℝ) : EReal)) (by ring)
  have hc : 0 < Real.exp (-M) := Real.exp_pos _
  have hL : 0 < ∑ j, Real.exp (σ j) := Finset.sum_pos (fun j _ => Real.exp_pos _) ⟨0, Finset.mem_univ _⟩
  have hn : ∑ j, v j * Ideal.exp ((σ j : EReal) - (M : EReal)) = ((Real.exp (-M) : ℝ) : EReal) * ∑ j, Ideal.exp (σ j : EReal) * v j := by
    rw [real_mul_sum _ hc.le]
    refine Finset.sum_congr rfl fun j _ => ?_
    rw [he, exp_coe, mul_comm (v j), mul_assoc]
  have hd : ∑ j, Ideal.exp ((σ j : EReal) - (M : EReal)) = ((Real.exp (-M) * ∑ j, Real.exp (σ j) : ℝ) : EReal) := by
    rw [Finset.sum_congr rfl fun j _ => he j, ← real_mul_sum _ hc.le, sum_coe, EReal.coe_mul]
  have hd' : ∑ j, Ideal.exp (σ j : EReal) = ((∑ j, Real.exp (σ j) : ℝ) : EReal) := by
    rw [← sum_coe]; rfl
  rw [hn, hd, hd']
  unfold Ideal.div
  rw [if_neg (EReal.coe_ne_zero.mpr (mul_pos hc hL).ne'), if_neg (EReal.coe_ne_zero.mpr hL.ne'), ← EReal.coe_inv, ← EReal.coe_inv,
    mul_comm ((Real.exp (-M) : ℝ) : EReal), mul_assoc, ← EReal.coe_mul]
  refine congrArg (fun z : ℝ => _ * (z : EReal)) ?_
  field_simp

/-- An extended real that is a real number. -/
def IsRe (x : EReal) : Prop := ∃ r : ℝ, x = (r : EReal)

theorem fin_of_abs {x : EReal} (h : max x (-x) < ⊤) : IsRe x := by
  induction x with
  | bot => exact absurd h (by simp)
  | top => exact absurd h (by simp)
  | coe r => exact ⟨r, rfl⟩

/-- A score is the same real number whether the eighth scales the queries' weights or the product. -/
theorem score_real (a a' : Fin 768 → EReal) (q k : Fin 768 → Fin 64 → EReal) (ha : ∀ n, IsRe (a n)) (ha' : ∀ n, IsRe (a' n))
    (hq : ∀ n t, IsRe (q n t)) (hk : ∀ n t, IsRe (k n t)) :
    ∃ s : ℝ, ∑ t, (∑ n, a n * (q n t * ((1 / 8 : ℝ) : EReal))) * (∑ n, a' n * k n t) = (s : EReal)
      ∧ (∑ t, (∑ n, a n * q n t) * (∑ n, a' n * k n t)) * ((1 / 8 : ℝ) : EReal) = (s : EReal) := by
  choose a₀ ea using ha
  choose a₁ ea' using ha'
  choose q₀ eq using hq
  choose k₀ ek using hk
  refine ⟨∑ t, (∑ n, a₀ n * (q₀ n t * (1 / 8))) * (∑ n, a₁ n * k₀ n t), ?_, ?_⟩
  · simp only [ea, ea', eq, ek, ← EReal.coe_mul, sum_coe]
  · simp only [ea, ea', eq, ek, ← EReal.coe_mul, sum_coe]
    refine congrArg _ ?_
    rw [Finset.sum_mul]
    refine Finset.sum_congr rfl fun t _ => ?_
    rw [mul_right_comm, Finset.sum_mul]
    refine congrArg (· * _) (Finset.sum_congr rfl fun n _ => ?_)
    ring

/-- The greatest of some real numbers, at least one, is a real number. -/
theorem foldl_max_real {α : Type} (g : α → EReal) (hg : ∀ n, IsRe (g n)) (l : List α) (z : EReal) (h : IsRe z ∨ (z = ⊥ ∧ l ≠ [])) :
    IsRe (l.foldl (fun r n => max r (g n)) z) := by
  induction l generalizing z with
  | nil =>
    rcases h with h | h
    · exact h
    · exact absurd rfl h.2
  | cons n l ih =>
    refine ih _ (Or.inl ?_)
    rcases h with ⟨r, rfl⟩ | ⟨rfl, -⟩
    · obtain ⟨s, hs⟩ := hg n
      exact ⟨max r s, by show max (r : EReal) (g n) = _; rw [hs]; exact (EReal.coe_strictMono.monotone.map_max).symm⟩
    · show IsRe (max ⊥ (g n)); rw [max_eq_right bot_le]; exact hg n

end Cert.Htp

end
-- ==== Proof.K.ValHead.lean ====
/-
One batch's attention on one device, over the extended reals: both of the kernel's spellings are the same sums.
-/
module

public import proofs.«01_k».proof.Proof.K.Prog
public import Idealize.ShloMosaic.Lib.MatmulPlain
public import Idealize.ShloMosaic.Lib.ValueIdx
public import Idealize.ShloMosaic.Lib.ValueLayoutCasts
public import Idealize.ShloMosaic.Lib.ValueLayout
public import Idealize.ShloMosaic.Lib.Pipeline.Value
public import Idealize.ShloMosaic.PureOps.Ideal.Laws

@[expose] public section

noncomputable section

namespace Cert.Htp

open Cert.KernelIdeal Cert.KernelIdeal.Gen
open Idealize.ShloMosaic Idealize.ShloMosaic.ValueIdx
open scoped BigOperators

/-! ## The formula -/

/-- The scores' column `t` of the head that column `c` belongs to. -/
def hcol (c : Fin 512) (t : Fin 64) : Fin 512 := ⟨64 * (c.val / 64) + t.val, by have := c.isLt; have := t.isLt; omega⟩

/-- One column of one head's attention at row `i`, from its queries, its keys and the column's values. -/
def attn (q k : Fin 256 → Fin 64 → EReal) (v : Fin 256 → EReal) (i : Fin 256) : EReal :=
  Ideal.div (∑ j, Ideal.exp (∑ t, q i t * k j t) * v j) (∑ j, Ideal.exp (∑ t, q i t * k j t))

/-! ## One head -/

section Head
variable {F : FTy → Type} [FloatOps F]

theorem slices_head (h : Fin 8) : S256x512.Slices (![0, 64 * h.val] : Fin 2 → ℕ) S256x64 := by
  revert h; decide

/-- The kernel's head number `h`. -/
def headK (h : Fin 8) (q k v : FVec F S256x512 .bf16) : FVec F S256x64 .f32 :=
  have p : FVec F S256x256 .f32 := exp (matmul dot_S256x64_S256x64_S256x256_1_1_0_0_n_n none
    (extractStridedSlice S256x64 ![0, 64 * h.val] q (slices_head h)) (extractStridedSlice S256x64 ![0, 64 * h.val] k (slices_head h))
    (constant S256x256 .f32 0x00000000#32))
  divf (matmul dot_S256x256_S256x64_S256x64_1_0_0_1_n_n none (truncf .bf16 p bitsLt_bf16_f32)
      (extractStridedSlice S256x64 ![0, 64 * h.val] v (slices_head h)) (constant S256x64 .f32 0x00000000#32))
    (broadcastTo S256x64 (shapeCast S256x1 (multiReduction .add [1] S256 p 0x00000000#32 reduces_S256x256_S256 (.inl rfl) rfl)
      shapeCasts_S256_S256x1) broadcasts_S256x1_S256x64)

/-- All eight heads side by side, times the device's rows of the output weights. -/
def headsK (q k v : FVec F S256x512 .bf16) (w : FVec F S512x768 .bf16) : FVec F S256x768 .f32 :=
  matmul dot_S256x512_S512x768_S256x768_1_0_0_1_n_n none
    (truncf .bf16 (concatenate S256x512 1 (List.ofFn fun h : Fin 8 => (⟨S256x64, headK h q k v⟩ : (s : Shape) × (s.Idx → F .f32)))
      concatenates_S256x64_S256x64_S256x64_S256x64_S256x64_S256x64_S256x64_S256x64_S256x512_d1) bitsLt_bf16_f32)
    w (constant S256x768 .f32 0x00000000#32)

/-- The projections: the queries' weights are scaled by an eighth before the product. -/
def projQ (x : Vec F S256x768 .bf16) (w : Vec F S768x512 .bf16) : FVec F S256x512 .bf16 :=
  truncf .bf16 (matmul dot_S256x768_S768x512_S256x512_1_0_0_1_n_n none (shapeCast S256x768 x shapeCasts_S256x768_S256x768)
    (mulf (shapeCast S768x512 w shapeCasts_S768x512_S768x512) (broadcast S768x512 (Scalar.ofBits .bf16 0x3E00#16)))
    (constant S256x512 .f32 0x00000000#32)) bitsLt_bf16_f32
def proj (x : Vec F S256x768 .bf16) (w : Vec F S768x512 .bf16) : FVec F S256x512 .bf16 :=
  truncf .bf16 (matmul dot_S256x768_S768x512_S256x512_1_0_0_1_n_n none (shapeCast S256x768 x shapeCasts_S256x768_S256x768)
    (shapeCast S768x512 w shapeCasts_S768x512_S768x512) (constant S256x512 .f32 0x00000000#32)) bitsLt_bf16_f32

theorem batchA_eq (v56 v60 v62 : Vec F S768x512 .bf16) (v64 : Vec F S512x768 .bf16) (x : Vec F S256x768 .bf16) :
    batchA v56 v60 v62 v64 x = headsK (projQ x v56) (proj x v60) (proj x v62) (shapeCast S512x768 v64 shapeCasts_S512x768_S512x768) := rfl
theorem batchB_eq (v56 v60 v62 : Vec F S768x512 .bf16) (v64 : Vec F S512x768 .bf16) (x : Vec F S256x768 .bf16) :
    batchB v56 v60 v62 v64 x = shapeCast S256x768 (headsK (projQ x v56) (proj x v60) (proj x v62) (shapeCast S512x768 v64 shapeCasts_S512x768_S512x768))
      shapeCasts_S256x768_S256x768 := rfl
end Head

/-! ## Read at an index -/

theorem headK_apply (h : Fin 8) (q k v : FVec Ideal S256x512 .bf16) (i : Fin 256) (e : Fin 64) :
    headK h q k v (ix2 i e) = attn (fun i t => q (ix2 i ⟨64 * h.val + t.val, by have := h.isLt; have := t.isLt; omega⟩))
      (fun i t => k (ix2 i ⟨64 * h.val + t.val, by have := h.isLt; have := t.isLt; omega⟩))
      (fun i => v (ix2 i ⟨64 * h.val + e.val, by have := h.isLt; have := e.isLt; omega⟩)) i := by
  have hs : ∀ (y : FVec Ideal S256x512 .bf16) (i : Fin 256) (t : Fin 64),
      extractStridedSlice S256x64 ![0, 64 * h.val] y (slices_head h) (ix2 i t)
        = y (ix2 i ⟨64 * h.val + t.val, by have := h.isLt; have := t.isLt; omega⟩) := fun y i t =>
    extractStridedSlice_apply _ y _ _ _ (fun a => by
      match a with
      | ⟨0, _⟩ => exact (Nat.zero_add _).symm
      | ⟨1, _⟩ => rfl)
  have hp : ∀ i j : Fin 256, (exp (matmul dot_S256x64_S256x64_S256x256_1_1_0_0_n_n none
        (extractStridedSlice S256x64 ![0, 64 * h.val] q (slices_head h)) (extractStridedSlice S256x64 ![0, 64 * h.val] k (slices_head h))
        (constant S256x256 .f32 0x00000000#32)) : FVec Ideal S256x256 .f32) (ix2 i j)
      = Ideal.exp (∑ t : Fin 64, q (ix2 i ⟨64 * h.val + t.val, by have := h.isLt; have := t.isLt; omega⟩)
          * k (ix2 j ⟨64 * h.val + t.val, by have := h.isLt; have := t.isLt; omega⟩)) := fun i j => by
    refine congrArg Ideal.exp ?_
    refine (Ideal.matmul_transposedRhs_apply (M := 256) (K := 64) (N := 256) none _ _ _ i j).trans ?_
    rw [constant_apply, Ideal.ofBits_zero_f32, zero_add]
    exact Finset.sum_congr rfl fun t _ => by rw [hs, hs]
  unfold headK attn
  dsimp only
  refine (divf_apply _ _ _).trans ?_
  refine congrArg₂ Ideal.div ?_ ?_
  · refine (Ideal.matmul_plain_apply (M := 256) (K := 256) (N := 64) none _ _ _ i e).trans ?_
    rw [constant_apply, Ideal.ofBits_zero_f32, zero_add]
    refine Finset.sum_congr rfl fun j _ => ?_
    rw [hs]
    exact congrArg (· * _) (hp i j)
  · refine (broadcastTo_apply _ _ _ (ix2 i (0 : Fin 1)) (fun a => by
      match a with
      | ⟨0, _⟩ => rfl
      | ⟨1, _⟩ => rfl)).trans ?_
    refine (shapeCast_a_a1_apply (a := 256) _ _ i 0).trans ?_
    refine (Ideal.multiReduction_add_single _ _ _ _ _ _).trans ?_
    refine Finset.sum_congr rfl fun j _ => ?_
    refine Eq.trans (congrArg _ ?_) (hp i j)
    funext a
    match a with
    | ⟨0, _⟩ => rfl
    | ⟨1, _⟩ => rfl

theorem headsK_apply (q k v : FVec Ideal S256x512 .bf16) (w : FVec Ideal S512x768 .bf16) (i : Fin 256) (e : Fin 768) :
    headsK q k v w (ix2 i e) = ∑ c : Fin 512, attn (fun i t => q (ix2 i (hcol c t))) (fun i t => k (ix2 i (hcol c t)))
      (fun i => v (ix2 i c)) i * w (ix2 c e) := by
  unfold headsK
  refine (Ideal.matmul_plain_apply (M := 256) (K := 512) (N := 768) none _ _ _ i e).trans ?_
  rw [constant_apply, Ideal.ofBits_zero_f32, zero_add]
  refine Finset.sum_congr rfl fun c _ => congrArg (· * _) ?_
  refine (truncf_apply _ bitsLt_bf16_f32 _).trans ?_
  refine (concatenate_ofFn_apply (t := S256x512) (s₁ := S256x64) 1 (fun h : Fin 8 => headK h q k v)
    concatenates_S256x64_S256x64_S256x64_S256x64_S256x64_S256x64_S256x64_S256x64_S256x512_d1 rfl 64 rfl (ix2 i c)
    ⟨c.val / 64, by have := c.isLt; omega⟩ rfl (ix2 i ⟨c.val % 64, Nat.mod_lt _ (by decide)⟩) rfl (fun b hb => by
      match b with
      | ⟨0, _⟩ => rfl
      | ⟨1, _⟩ => exact absurd rfl hb)).trans ?_
  rw [headK_apply]
  have hv : (fun i => v (ix2 i ⟨64 * (c.val / 64) + c.val % 64, by have := c.isLt; omega⟩)) = fun i : Fin 256 => v (ix2 i c) :=
    funext fun i => congrArg v (congrArg (ix2 i) (Fin.ext (by show 64 * (c.val / 64) + c.val % 64 = c.val; omega)))
  exact congrArg (fun z => attn _ _ z i) hv

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

theorem projQ_apply (x : Vec Ideal S256x768 .bf16) (w : Vec Ideal S768x512 .bf16) (i : Fin 256) (c : Fin 512) :
    projQ x w (ix2 i c) = ∑ k : Fin 768, x (ix2 i k) * (w (ix2 k c) * ((1 / 8 : ℝ) : EReal)) := by
  unfold projQ
  refine (Ideal.matmul_plain_apply (M := 256) (K := 768) (N := 512) none _ _ _ i c).trans ?_
  rw [constant_apply, Ideal.ofBits_zero_f32, zero_add, shapeCast_self, shapeCast_self]
  exact Finset.sum_congr rfl fun k _ => congrArg (fun z => x (ix2 i k) * (w (ix2 k c) * z)) eighth_bf16
theorem proj_apply (x : Vec Ideal S256x768 .bf16) (w : Vec Ideal S768x512 .bf16) (i : Fin 256) (c : Fin 512) :
    proj x w (ix2 i c) = ∑ k : Fin 768, x (ix2 i k) * w (ix2 k c) := by
  unfold proj
  refine (Ideal.matmul_plain_apply (M := 256) (K := 768) (N := 512) none _ _ _ i c).trans ?_
  rw [constant_apply, Ideal.ofBits_zero_f32, zero_add, shapeCast_self, shapeCast_self]

/-- One device's share of one batch's output, from the batch's rows of `x` and the device's weights. -/
def share (x : Fin 256 → Fin 768 → EReal) (q k v : Fin 768 → Fin 512 → EReal) (o : Fin 512 → Fin 768 → EReal) (i : Fin 256) (e : Fin 768) : EReal :=
  ∑ c : Fin 512, attn (fun i t => ∑ n, x i n * (q n (hcol c t) * ((1 / 8 : ℝ) : EReal))) (fun i t => ∑ n, x i n * k n (hcol c t))
    (fun i => ∑ n, x i n * v n c) i * o c e

theorem batchA_apply (wq wk wv : Vec Ideal S768x512 .bf16) (wo : Vec Ideal S512x768 .bf16) (x : Vec Ideal S256x768 .bf16) (i : Fin 256) (e : Fin 768) :
    batchA wq wk wv wo x (ix2 i e) = share (fun i n => x (ix2 i n)) (fun n c => wq (ix2 n c)) (fun n c => wk (ix2 n c)) (fun n c => wv (ix2 n c))
      (fun c e => wo (ix2 c e)) i e := by
  rw [batchA_eq, headsK_apply]
  unfold share
  simp only [projQ_apply, proj_apply, shapeCast_self]
theorem batchB_apply (wq wk wv : Vec Ideal S768x512 .bf16) (wo : Vec Ideal S512x768 .bf16) (x : Vec Ideal S256x768 .bf16) (i : Fin 256) (e : Fin 768) :
    batchB wq wk wv wo x (ix2 i e) = share (fun i n => x (ix2 i n)) (fun n c => wq (ix2 n c)) (fun n c => wk (ix2 n c)) (fun n c => wv (ix2 n c))
      (fun c e => wo (ix2 c e)) i e := by
  rw [batchB_eq, shapeCast_self, ← batchA_eq, batchA_apply]

end Cert.Htp

end
-- ==== Proof.K.ValRef.lean ====
/-
The reference's result over the extended reals, for real `x`, `Wq` and `Wk`: each entry is a sum over all the heads' columns of the
same attention the kernel takes.
-/
module

public import proofs.«01_k».proof.Proof.K.ValMath
public import proofs.«01_k».proof.Proof.K.ValHead
public import proofs.«01_k».proof.Proof.Gen.ReferenceIdeal.Read

@[expose] public section

noncomputable section

namespace Cert.Htp

open Cert.ReferenceIdeal Cert.ReferenceIdeal.Gen Cert.ReferenceIdeal.Read
open Idealize.ShloMosaic Idealize.ShloMosaic.ValueIdx
open scoped BigOperators

variable (x0 : (⟨S512x768, .bf16⟩ : BufTy).Contents (Elt Ideal)) (x1 x2 x3 : (⟨S768x16384, .bf16⟩ : BufTy).Contents (Elt Ideal))
  (x4 : (⟨S16384x768, .bf16⟩ : BufTy).Contents (Elt Ideal))

/-- Row `i` of batch `b` of `x`, and a column of its product with a weight. -/
def rowOf (b : Fin 2) (i : Fin 256) : Fin 512 := ⟨b.val * 256 + i.val, by have := b.isLt; have := i.isLt; omega⟩
def colOf (h : Fin 256) (t : Fin 64) : Fin 16384 := ⟨h.val * 64 + t.val, by have := h.isLt; have := t.isLt; omega⟩
def pr (w : (⟨S768x16384, .bf16⟩ : BufTy).Contents (Elt Ideal)) (b : Fin 2) (i : Fin 256) (C : Fin 16384) : EReal :=
  ∑ n : Fin 768, x0 (ix2 (rowOf b i) n) * w (ix2 n C)

theorem v1_at (b : Fin 2) (i : Fin 256) (n : Fin 768) : val_main_v1 (F := Ideal) x0 (ix3 b i n) = x0 (ix2 (rowOf b i) n) := by
  refine (val_main_v1_apply x0 _).trans ?_
  refine congrArg x0 (funext fun a => Fin.ext ?_)
  have := n.isLt
  match a with
  | ⟨0, _⟩ => show ((b.val * 256 + i.val) * 768 + n.val) / 768 = b.val * 256 + i.val; omega
  | ⟨1, _⟩ => show ((b.val * 256 + i.val) * 768 + n.val) % 768 = n.val; omega

theorem v6_at (b : Fin 2) (i : Fin 256) (C : Fin 16384) : val_main_v6 (F := Ideal) x0 x1 (ix3 b i C) = pr x0 x1 b i C := by
  refine (val_main_v6_apply x0 x1 _).trans (Finset.sum_congr rfl fun n _ => ?_)
  rw [show lidx_main_v6 (ix3 b i C) n = ix3 b i n from funext fun a => by fin_cases a <;> rfl, v1_at]
  exact congrArg (fun z => _ * x1 z) (funext fun a => by fin_cases a <;> rfl)
theorem v8_at (b : Fin 2) (i : Fin 256) (C : Fin 16384) : val_main_v8 (F := Ideal) x0 x2 (ix3 b i C) = pr x0 x2 b i C := by
  refine (val_main_v8_apply x0 x2 _).trans (Finset.sum_congr rfl fun n _ => ?_)
  rw [show lidx_main_v8 (ix3 b i C) n = ix3 b i n from funext fun a => by fin_cases a <;> rfl, v1_at]
  exact congrArg (fun z => _ * x2 z) (funext fun a => by fin_cases a <;> rfl)
theorem v10_at (b : Fin 2) (i : Fin 256) (C : Fin 16384) : val_main_v10 (F := Ideal) x0 x3 (ix3 b i C) = pr x0 x3 b i C := by
  refine (val_main_v10_apply x0 x3 _).trans (Finset.sum_congr rfl fun n _ => ?_)
  rw [show lidx_main_v10 (ix3 b i C) n = ix3 b i n from funext fun a => by fin_cases a <;> rfl, v1_at]
  exact congrArg (fun z => _ * x3 z) (funext fun a => by fin_cases a <;> rfl)

theorem split_at (b : Fin 2) (i : Fin 256) (h : Fin 256) (t : Fin 64) : idx_main_v7 (ix4 b i h t) = ix3 b i (colOf h t) := funext fun a => Fin.ext (by
  have hb := b.isLt
  have hi := i.isLt
  have hh := h.isLt
  have ht := t.isLt
  match a with
  | ⟨0, _⟩ => show (((b.val * 256 + i.val) * 256 + h.val) * 64 + t.val) / 4194304 = b.val; omega
  | ⟨1, _⟩ => show (((b.val * 256 + i.val) * 256 + h.val) * 64 + t.val) / 16384 % 256 = i.val; omega
  | ⟨2, _⟩ => show (((b.val * 256 + i.val) * 256 + h.val) * 64 + t.val) % 16384 = h.val * 64 + t.val; omega)

theorem v7_at (b : Fin 2) (i h : Fin 256) (t : Fin 64) : val_main_v7 (F := Ideal) x0 x1 (ix4 b i h t) = pr x0 x1 b i (colOf h t) := by
  rw [val_main_v7_apply, split_at, v6_at]
theorem v9_at (b : Fin 2) (i h : Fin 256) (t : Fin 64) : val_main_v9 (F := Ideal) x0 x2 (ix4 b i h t) = pr x0 x2 b i (colOf h t) := by
  rw [val_main_v9_apply, show idx_main_v9 (ix4 b i h t) = ix3 b i (colOf h t) from split_at b i h t, v8_at]
theorem v11_at (b : Fin 2) (i h : Fin 256) (t : Fin 64) : val_main_v11 (F := Ideal) x0 x3 (ix4 b i h t) = pr x0 x3 b i (colOf h t) := by
  rw [val_main_v11_apply, show idx_main_v11 (ix4 b i h t) = ix3 b i (colOf h t) from split_at b i h t, v10_at]

/-- The reference's scores. -/
def rsc (b : Fin 2) (h i j : Fin 256) : EReal := (∑ t : Fin 64, pr x0 x1 b i (colOf h t) * pr x0 x2 b j (colOf h t)) * ((1 / 8 : ℝ) : EReal)

theorem v15_at (b : Fin 2) (h i j : Fin 256) : val_main_v15 (F := Ideal) x0 x1 x2 (ix4 b h i j)
    = ∑ t : Fin 64, pr x0 x1 b i (colOf h t) * pr x0 x2 b j (colOf h t) := by
  refine (val_main_v15_apply x0 x1 x2 _).trans (Finset.sum_congr rfl fun t _ => ?_)
  rw [show lidx_main_v15 (ix4 b h i j) t = ix4 b i h t from funext fun a => by fin_cases a <;> rfl,
    show ridx_main_v15 (ix4 b h i j) t = ix4 b j h t from funext fun a => by fin_cases a <;> rfl, v7_at, v9_at]
theorem v17_at (b : Fin 2) (h i j : Fin 256) : val_main_v17 (F := Ideal) x0 x1 x2 (ix4 b h i j) = rsc x0 x1 x2 b h i j := by
  rw [val_main_v17_apply, v15_at, val_main_v16_apply, val_main_cst_2_apply]
  exact congrArg (_ * ·) eighth_f32

theorem zero_f32 : FloatOps.ofBits (F := Ideal) .f32 0x00000000#32 = (0 : EReal) := Ideal.ofBits_zero_f32
theorem bot_f32 : FloatOps.ofBits (F := Ideal) .f32 0xFF800000#32 = (⊥ : EReal) := by
  show Ideal.ofBits .f32 0xFF800000#32 = ⊥
  simp [Ideal.ofBits, Ideal.ieee]

/-- The row maximum of real scores is a real number. -/
theorem v18_at (hs : ∀ i, IsRe (val_main_v17 (F := Ideal) x0 x1 x2 i)) (j : S2x256x256.Idx) : IsRe (val_main_v18 (F := Ideal) x0 x1 x2 j) := by
  unfold val_main_v18 Host.reduce
  have hR : S2x256x256x256.Reduces [3] S2x256x256 := by decide
  refine foldl_max_real (fun n => val_main_v17 (F := Ideal) x0 x1 x2 (S2x256x256x256.rowMajor.symm n)) (fun n => hs _) _ _
    (Or.inr ⟨bot_f32, List.ne_nil_of_mem (a := S2x256x256x256.rowMajor (hR.lift j (0 : Fin 256))) (List.mem_filter.mpr ⟨List.mem_finRange _, ?_⟩)⟩)
  rw [Equiv.symm_apply_apply]
  exact decide_eq_true (hR.drop_lift j (0 : Fin 256))

section
variable (hs : ∀ i, IsRe (val_main_v17 (F := Ideal) x0 x1 x2 i))
include hs

theorem v20_at (i : S2x256x256x1.Idx) : IsRe (val_main_v20 (F := Ideal) x0 x1 x2 i) := by
  rw [val_main_v20_apply, val_main_v13_apply, val_main_cst_0_apply, bot_f32, val_main_v19_apply]
  show IsRe (max ⊥ _)
  rw [max_eq_right bot_le]
  exact v18_at x0 x1 x2 hs _
theorem v22_at (i : S2x256x256x1.Idx) : val_main_v22 (F := Ideal) x0 x1 x2 i = (0 : EReal) := by
  obtain ⟨M, hM⟩ := v20_at x0 x1 x2 hs i
  rw [val_main_v22_apply, val_main_v21_apply, val_main_v13_apply, val_main_cst_0_apply, bot_f32, hM]
  show Ideal.exp ((⊥ : EReal) - (M : EReal)) = 0
  rw [EReal.bot_sub]
  rfl
theorem v29_at (b : Fin 2) (h i : Fin 256) : val_main_v29 (F := Ideal) x0 x1 x2 (ix4 b h i (0 : Fin 1))
    = ∑ j : Fin 256, val_main_v25 (F := Ideal) x0 x1 x2 (ix4 b h i j) := by
  rw [val_main_v29_apply, val_main_v26_apply, v22_at x0 x1 x2 hs, val_main_v28_apply, val_main_v27_apply, val_main_cst_4_apply, zero_f32]
  show (_ * (0 : EReal)) + (0 + _) = _
  rw [mul_zero, zero_add, zero_add]
  exact Finset.sum_congr rfl fun j _ => congrArg _ (funext fun a => by fin_cases a <;> rfl)
theorem v32_at (i : S2x256x256x64.Idx) : val_main_v32 (F := Ideal) x0 x1 x2 i = (0 : EReal) := by
  rw [val_main_v32_apply, val_main_v31_apply, val_main_v30_apply, v22_at x0 x1 x2 hs]
  exact mul_zero _
theorem v38_at (b : Fin 2) (h i : Fin 256) (d : Fin 64) : val_main_v38 (F := Ideal) x0 x1 x2 x3 (ix4 b i h d)
    = Ideal.div (∑ j : Fin 256, pr x0 x3 b j (colOf h d) * val_main_v25 (F := Ideal) x0 x1 x2 (ix4 b h i j))
        (∑ j : Fin 256, val_main_v25 (F := Ideal) x0 x1 x2 (ix4 b h i j)) := by
  rw [val_main_v38_apply, val_main_v35_apply, v32_at x0 x1 x2 hs, val_main_v34_apply, val_main_v33_apply, val_main_v37_apply, val_main_v36_apply,
    show idx_main_v36 (idx_main_v37 (ix4 b i h d)) = ix4 b h i (0 : Fin 1) from funext fun a => by fin_cases a <;> rfl, v29_at x0 x1 x2 hs]
  refine congrArg (Ideal.div · _) ((zero_add _).trans (Finset.sum_congr rfl fun j _ => ?_))
  rw [show lidx_main_v33 (idx_main_v34 (ix4 b i h d)) j = ix4 b j h d from funext fun a => by fin_cases a <;> rfl,
    show ridx_main_v33 (idx_main_v34 (ix4 b i h d)) j = ix4 b h i j from funext fun a => by fin_cases a <;> rfl, v11_at]

/-- The row's attention, the maximum cancelled. -/
theorem v38_attn (b : Fin 2) (h i : Fin 256) (d : Fin 64) : val_main_v38 (F := Ideal) x0 x1 x2 x3 (ix4 b i h d)
    = Ideal.div (∑ j : Fin 256, Ideal.exp (rsc x0 x1 x2 b h i j) * pr x0 x3 b j (colOf h d)) (∑ j : Fin 256, Ideal.exp (rsc x0 x1 x2 b h i j)) := by
  rw [v38_at x0 x1 x2 x3 hs]
  obtain ⟨M, hM⟩ := v20_at x0 x1 x2 hs (ix4 b h i (0 : Fin 1))
  have hσ : ∀ j, IsRe (rsc x0 x1 x2 b h i j) := fun j => by rw [← v17_at]; exact hs _
  choose σ hσ using hσ
  have e : ∀ j, val_main_v25 (F := Ideal) x0 x1 x2 (ix4 b h i j) = Ideal.exp ((σ j : EReal) - (M : EReal)) := fun j => by
    rw [val_main_v25_apply, val_main_v24_apply, v17_at, val_main_v23_apply,
      show idx_main_v23 (ix4 b h i j) = ix4 b h i (0 : Fin 1) from funext fun a => by fin_cases a <;> rfl, hM, hσ]
    rfl
  simp only [e, hσ]
  exact attn_shift σ M _
end

/-- The head and the column within it. -/
def headOf (C : Fin 16384) : Fin 256 := ⟨C.val / 64, by have := C.isLt; omega⟩
def inHead (C : Fin 16384) : Fin 64 := ⟨C.val % 64, Nat.mod_lt _ (by decide)⟩

theorem v39_at (b : Fin 2) (i : Fin 256) (C : Fin 16384) : val_main_v39 (F := Ideal) x0 x1 x2 x3 (ix3 b i C)
    = val_main_v38 (F := Ideal) x0 x1 x2 x3 (ix4 b i (headOf C) (inHead C)) := by
  rw [val_main_v39_apply]
  refine congrArg _ (funext fun a => Fin.ext ?_)
  have hb := b.isLt
  have hi := i.isLt
  have hC := C.isLt
  match a with
  | ⟨0, _⟩ => show ((b.val * 256 + i.val) * 16384 + C.val) / 4194304 = b.val; omega
  | ⟨1, _⟩ => show ((b.val * 256 + i.val) * 16384 + C.val) / 16384 % 256 = i.val; omega
  | ⟨2, _⟩ => show ((b.val * 256 + i.val) * 16384 + C.val) / 64 % 256 = C.val / 64; omega
  | ⟨3, _⟩ => show ((b.val * 256 + i.val) * 16384 + C.val) % 64 = C.val % 64; omega

theorem v41_at (b : Fin 2) (i : Fin 256) (e : Fin 768) : val_main_v41 (F := Ideal) x0 x1 x2 x3 x4 (ix2 (rowOf b i) e)
    = ∑ C : Fin 16384, (val_main_v38 (F := Ideal) x0 x1 x2 x3 (ix4 b i (headOf C) (inHead C)) * x4 (ix2 C e) : EReal) := by
  have he : idx_main_v41 (ix2 (rowOf b i) e) = ix3 b i e := funext fun a => Fin.ext (by
    have hb := b.isLt
    have hi := i.isLt
    have he := e.isLt
    match a with
    | ⟨0, _⟩ => show ((b.val * 256 + i.val) * 768 + e.val) / 196608 = b.val; omega
    | ⟨1, _⟩ => show ((b.val * 256 + i.val) * 768 + e.val) / 768 % 256 = i.val; omega
    | ⟨2, _⟩ => show ((b.val * 256 + i.val) * 768 + e.val) % 768 = e.val; omega)
  rw [val_main_v41_apply, he]
  refine (val_main_v40_apply x0 x1 x2 x3 x4 _).trans (Finset.sum_congr rfl fun C _ => ?_)
  rw [show lidx_main_v40 (ix3 b i e) C = ix3 b i C from funext fun a => by fin_cases a <;> rfl, v39_at]
  exact congrArg (fun z => _ * x4 z) (funext fun a => by fin_cases a <;> rfl)

end Cert.Htp

end
-- ==== Proof.K.ValSum.lean ====
/-
The kernel's result over the extended reals: every row of a batch is the sum of all thirty-two devices' shares of it.
-/
module

public import proofs.«01_k».proof.Proof.K.ValHead
public import proofs.«01_k».proof.Proof.K.Frames
public import Idealize.ShloMosaic.Lib.Pipeline.ValueKit.Point

@[expose] public section

noncomputable section

namespace Cert.Htp

open Cert.KernelIdeal Cert.KernelIdeal.Gen
open Idealize.ShloMosaic hiding ix2
open Idealize.ShloMosaic.TcCoe Idealize.ShloMosaic.ValueIdx Idealize.SL.Sem
open scoped BigOperators

variable (m : (ℓ : Loc nD τ sig) → Buf (Elt Ideal) ℓ) (ρ : Dev nD → PrngReg)

/-- Row `r` of batch `b`, as a row of a 512-row array. -/
def brow (b : ℕ) (r : Fin 256) : Fin 512 := ⟨b % 2 * 256 + r.val, by have := r.isLt; omega⟩

/-- A device's share of one row of a batch. -/
def shr (d : Dev nD) (b : ℕ) (r : Fin 256) (e : Fin 768) : EReal :=
  share (fun i n => xs m ρ d (mk (n := 512) (brow b i) n)) (fun n c => wq m ρ d (ix2 n c)) (fun n c => wk m ρ d (ix2 n c))
    (fun n c => wv m ρ d (ix2 n c)) (fun c e => wo m ρ d (ix2 c e)) r e

theorem emb_mk {n o : ℕ} {off : Fin 2 → ℕ} (h : ∀ a, off a + (Sh n).size a ≤ S512x768.size a) (ho : off = ![o, 0]) (r : Fin n) (e : Fin 768)
    (k : Fin 512) (hk : k.val = o + r.val) : (Rect.unit (s := S512x768) off (Sh n).size h).emb (mk r e) = mk (n := 512) k e := by
  obtain ⟨h0, h1⟩ := emb_unit h ho (mk r e)
  refine (mk_eta (n := 512) _).symm.trans ?_
  rw [h1]
  exact congrArg (fun z => mk (n := 512) z e) (Fin.ext (h0.trans hk.symm))

theorem mk_ix2 {n : ℕ} (r : Fin n) (e : Fin 768) : mk r e = ix2 r e := by
  funext a
  match a with
  | ⟨0, _⟩ => rfl
  | ⟨1, _⟩ => rfl

theorem up_mk {α : Type} {n : ℕ} (hn : 0 < n) (v : (Sh n).Idx → α) (o : ℕ) (k : Fin 512) (e : Fin 768) (r : Fin n) (h : (k.val - o) % n = r.val) :
    up hn v o (mk (n := 512) k e) = v (mk r e) :=
  congrArg v (congrArg (fun z => mk z e) (Fin.ext h))

section
variable (c : Dev nD)

theorem half_cases : half c = 0 ∨ half c = 1 := by have := half_lt c; omega

theorem xA_apply (i : Fin 256) (n : Fin 768) : xA m ρ c (ix2 i n) = xs m ρ c (mk (n := 512) (brow (1 - half c) i) n) := by
  rw [← mk_ix2]
  show xs m ρ c ((rct2 (k0_off1 c) (k0_off1_inb c)).emb (mk i n)) = _
  refine congrArg (xs m ρ c) (emb_mk (n := 256) (k0_off1_inb c) (off1_eq c) i n _ ?_)
  have := half_cases c
  unfold t8
  show (1 - half c) % 2 * 256 + i.val = 256 - half c * 256 + i.val
  rcases this with h | h <;> rw [h] <;> omega
theorem xB_apply (i : Fin 256) (n : Fin 768) : xB m ρ c (ix2 i n) = xs m ρ c (mk (n := 512) (brow (half c) i) n) := by
  rw [← mk_ix2]
  show xs m ρ c ((rct2 (k0_off2 c) (k0_off2_inb c)).emb (mk i n)) = _
  refine congrArg (xs m ρ c) (emb_mk (n := 256) (k0_off2_inb c) (off2_eq c) i n _ ?_)
  have := half_cases c
  unfold t8
  show half c % 2 * 256 + i.val = half c * 256 + i.val
  rcases this with h | h <;> rw [h] <;> omega

theorem pB_apply (r : Fin 256) (e : Fin 768) : pB m ρ c (mk r e) = shr m ρ c (half c) r e := by
  unfold pB shr
  rw [mk_ix2, batchB_apply]
  simp only [xB_apply]
theorem pA_apply (r : Fin 256) (e : Fin 768) : pA m ρ c (mk r e) = shr m ρ c (1 - half c) r e := by
  unfold pA k0_pay16 shr
  rw [shapeCast_self, mk_ix2, batchA_apply]
  simp only [xA_apply]
theorem top_apply (r : Fin 256) (e : Fin 768) : top m ρ c (mk r e) = shr m ρ c (1 - half c) r e := by
  unfold top k0_pay17
  rw [shapeCast_self]
  exact pA_apply m ρ c r e

/-- A row of the kept batch with the sibling's share added. -/
def two (r : Fin 256) (e : Fin 768) : EReal := shr m ρ c (half c) r e + shr m ρ (sib c) (half c) r e

theorem top_sib (r : Fin 256) (e : Fin 768) : top m ρ (sib c) (mk r e) = shr m ρ (sib c) (half c) r e := by
  rw [top_apply, half_sib]
  have := half_cases c
  rw [show 1 - (1 - half c) = half c by omega]
theorem pay34_apply (p : FVec Ideal S256x768 .f32) (t : FVec Ideal S256x768 .bf16) (i : S256x768.Idx) :
    @Eq EReal (k0_pay34 (F := Ideal) p t i) (p i + t i) := by
  unfold k0_pay34 k0_pay33
  rw [shapeCast_self]
  rfl
theorem pay35_apply (p : FVec Ideal S256x768 .f32) (t : FVec Ideal S256x768 .bf16) (i : S256x768.Idx) :
    @Eq EReal (k0_pay35 (F := Ideal) p t i) (p i + t i) := by
  unfold k0_pay35 k0_pay33
  rw [shapeCast_self]
  rfl
theorem acc_apply (r : Fin 256) (e : Fin 768) : acc m ρ c (mk r e) = two m ρ c r e := by
  unfold acc two
  rw [pay34_apply, pB_apply, top_sib]
theorem bot_apply (r : Fin 256) (e : Fin 768) : bot m ρ c (mk r e) = two m ρ c r e := by
  unfold bot two
  rw [pay35_apply, pB_apply, top_sib]

/-- Row `r` of a group's block of sixteen, as a row of a batch. -/
def grow (g : Fin 16) (r : Fin 16) : Fin 256 := ⟨g.val * 16 + r.val, by have := g.isLt; have := r.isLt; omega⟩

theorem recvd_apply (j : Fin 15) (r : Fin 16) (e : Fin 768) : recvd m ρ c j (mk r e) = two m ρ (peer c j) (grow (grp c) r) e := by
  have hg := (grp (peer c j)).isLt
  have hg' := (grp c).isLt
  have hr := r.isLt
  refine (congrArg (RECVF m ρ c) (emb_mk (n := 16) (k0_off5_inb c j) (off5_eq c j) r e ⟨256 + (grp (peer c j)).val * 16 + r.val, by omega⟩ rfl)).trans ?_
  refine (if_neg (show ¬(256 + (grp (peer c j)).val * 16 + r.val < 256) by omega)).trans ?_
  have e1 : devOf (half c) ((256 + (grp (peer c j)).val * 16 + r.val - 256) / 16) = peer c j := by
    rw [show (256 + (grp (peer c j)).val * 16 + r.val - 256) / 16 = (grp (peer c j)).val by omega, ← half_peer c j, devOf_half_grp]
  show SENDF m ρ (devOf (half c) ((256 + (grp (peer c j)).val * 16 + r.val - 256) / 16))
    (mk (n := 512) ⟨256 + (grp c).val * 16 + (256 + (grp (peer c j)).val * 16 + r.val) % 16, _⟩ e) = _
  rw [e1]
  refine (if_neg (show ¬(256 + (grp c).val * 16 + (256 + (grp (peer c j)).val * 16 + r.val) % 16 < 256) by omega)).trans ?_
  refine (up_mk _ _ _ _ e (grow (grp c) r) ?_).trans (bot_apply m ρ _ _ e)
  show (256 + (grp c).val * 16 + (256 + (grp (peer c j)).val * 16 + r.val) % 16 - 256) % 256 = (grp c).val * 16 + r.val
  omega

theorem ownB_apply (r : Fin 16) (e : Fin 768) : ownB m ρ c (mk r e) = two m ρ c (grow (grp c) r) e := by
  have hg := (grp c).isLt
  have hr := r.isLt
  have hh := half_lt c
  refine (congrArg (ACCF m ρ c) (emb_mk (n := 16) (k0_off6_inb c) (off6_eq c) r e ⟨myb c + r.val, by unfold myb; omega⟩ rfl)).trans ?_
  unfold ACCF
  refine (up_mk _ _ _ _ e (grow (grp c) r) ?_).trans (acc_apply m ρ c _ e)
  show (myb c + r.val - t8 c) % 256 = (grp c).val * 16 + r.val
  unfold myb t8
  omega

theorem sum15_apply (w : Fin 15 → Vec Ideal S16x768 .bf16) (i : S16x768.Idx) : sum15 w i = ∑ j : Fin 15, w j i := by
  have h : sum15 w i = (Ideal.ofBits .f32 0x00000000#32 + w 0 i + w 1 i + w 2 i + w 3 i + w 4 i + w 5 i + w 6 i + w 7 i + w 8 i + w 9 i
    + w 10 i + w 11 i + w 12 i + w 13 i + w 14 i : EReal) := rfl
  rw [h, Ideal.ofBits_zero_f32]
  simp only [Fin.sum_univ_succ, Fin.sum_univ_zero]
  simp only [add_assoc, zero_add, add_zero]
  rfl

/-- The devices: sixteen of one half, and their siblings. -/
theorem nb_bij : Function.Bijective (fun s : Fin 16 ⊕ Fin 16 => Sum.elim (fun j => nb c j) (fun j => sib (nb c j)) s) := by
  revert c; decide +kernel
theorem sum_devs (f : Dev nD → EReal) : ∑ j : Fin 16, (f (nb c j) + f (sib (nb c j))) = ∑ d : Dev nD, f d := by
  rw [Finset.sum_add_distrib, ← (Equiv.ofBijective _ (nb_bij c)).sum_comp f, Fintype.sum_sum_type]
  rfl

theorem made_apply (r : Fin 16) (e : Fin 768) : made m ρ c (mk r e) = ∑ d : Dev nD, shr m ρ d (half c) (grow (grp c) r) e := by
  unfold made k0_pay40 k0_pay39
  rw [shapeCast_self]
  show (ownB m ρ c (mk r e) + sum15 (recvd m ρ c) (mk r e) : EReal) = _
  rw [ownB_apply, sum15_apply]
  simp only [recvd_apply]
  rw [← sum_devs c, Fin.sum_univ_succ (n := 15), nb_zero]
  refine congrArg₂ (· + ·) rfl (Finset.sum_congr rfl fun j _ => ?_)
  rw [nb_succ]
  unfold two
  rw [half_peer]

end

/-- The batch and the row within it. -/
def bOf (i : Fin 512) : ℕ := i.val / 256
def rOf (i : Fin 512) : Fin 256 := ⟨i.val % 256, Nat.mod_lt _ (by decide)⟩

theorem AGF_apply (i : Fin 512) (e : Fin 768) : AGF m ρ (mk i e) = ∑ d : Dev nD, shr m ρ d (bOf i) (rOf i) e := by
  have hi := i.isLt
  unfold AGF
  refine (up_mk _ _ _ _ e ⟨i.val % 16, Nat.mod_lt _ (by decide)⟩ (by rw [Nat.sub_zero])).trans ?_
  rw [made_apply]
  have h1 := half_devOf ⟨i.val / 256, by omega⟩ ⟨i.val % 256 / 16, by omega⟩
  have h2 := grp_devOf ⟨i.val / 256, by omega⟩ ⟨i.val % 256 / 16, by omega⟩
  dsimp only at h1 h2
  show ∑ d : Dev nD, shr m ρ d (half (devOf (i.val / 256) (i.val % 256 / 16))) (grow (grp (devOf (i.val / 256) (i.val % 256 / 16))) _) e = _
  rw [h1, h2]
  refine Finset.sum_congr rfl fun d _ => congrArg (fun z => shr m ρ d _ z e) (Fin.ext ?_)
  show i.val % 256 / 16 * 16 + i.val % 16 = i.val % 256
  omega

theorem OUTF_apply (c : Dev nD) (i : Fin 512) (e : Fin 768) : OUTF m ρ c (mk i e) = ∑ d : Dev nD, shr m ρ d (bOf i) (rOf i) e := by
  rw [← AGF_apply]
  have hi := i.isLt
  have hc := half_cases c
  have hmod : i.val % 256 < 256 := Nat.mod_lt _ (by decide)
  unfold OUTF
  split
  · next h =>
    replace h : i.val / 256 = half c := h
    refine (up_mk _ _ _ _ e ⟨i.val % 256, hmod⟩ (by unfold t8; show (i.val - half c * 256) % 256 = i.val % 256; omega)).trans ?_
    refine congrArg (AGF m ρ) (emb_mk (n := 256) (k0_off2_inb c) (off2_eq c) _ e i ?_)
    unfold t8; show i.val = half c * 256 + i.val % 256; omega
  · next h =>
    replace h : ¬i.val / 256 = half c := h
    refine (up_mk _ _ _ _ e ⟨i.val % 256, hmod⟩ (by unfold t8; show (i.val - (256 - half c * 256)) % 256 = i.val % 256; omega)).trans ?_
    refine congrArg (AGF m ρ) (emb_mk (n := 256) (k0_off1_inb c) (off1_eq c) _ e i ?_)
    unfold t8; show i.val = 256 - half c * 256 + i.val % 256; omega

/-- The result array after the run. -/
theorem final_out (c : Dev nD) : finalA m ρ c (5 : Fin 6) = OUTF m ρ c := by
  refine (dats m ρ 0 c).arrAt_eq_of_after_last (5 : Fin 6) (⟨0, by decide⟩ : Fin cfg0.N) (by decide +kernel) _ fun j => ?_
  rfl

/-- The staged inputs are the arrays. -/
theorem xs_eq (c : Dev nD) : xs m ρ c = m ((c : Thread nD τ).loc main_arg0) := by
  have hz : win0_0.index (0 : Fin 1) = ![0, 0] := by decide +kernel
  unfold xs s₀
  funext i
  blk_ext! [hz]
theorem wq_eq (c : Dev nD) : wq m ρ c = m ((c : Thread nD τ).loc main_arg1) := by
  have hz : win0_1.index (0 : Fin 1) = ![0, 0] := by decide +kernel
  unfold wq s₀
  funext i
  blk_ext! [hz]
theorem wk_eq (c : Dev nD) : wk m ρ c = m ((c : Thread nD τ).loc main_arg2) := by
  have hz : win0_3.index (0 : Fin 1) = ![0, 0] := by decide +kernel
  unfold wk s₀
  funext i
  blk_ext! [hz]
theorem wv_eq (c : Dev nD) : wv m ρ c = m ((c : Thread nD τ).loc main_arg3) := by
  have hz : win0_4.index (0 : Fin 1) = ![0, 0] := by decide +kernel
  unfold wv s₀
  funext i
  blk_ext! [hz]
theorem wo_eq (c : Dev nD) : wo m ρ c = m ((c : Thread nD τ).loc main_arg4) := by
  have hz : win0_2.index (0 : Fin 1) = ![0, 0] := by decide +kernel
  unfold wo s₀
  funext i
  blk_ext! [hz]

end Cert.Htp

end
-- ==== Proof.K.ValEq.lean ====
/-
The kernel's result is the reference's: the columns of all the heads, summed device by device.
-/
module

public import proofs.«01_k».proof.Proof.K.ValRef
public import proofs.«01_k».proof.Proof.K.ValSum

@[expose] public section

noncomputable section

namespace Cert.Htp

open Idealize.ShloMosaic hiding ix2 ix4 eq_ix2 eq_ix4
open Idealize.ShloMosaic.ValueIdx Idealize.SL.Sem
open scoped BigOperators

/-! ## One device's columns -/

section Columns
open Cert.ReferenceIdeal Cert.ReferenceIdeal.Gen Cert.ReferenceIdeal.Read

/-- Column `c` of device `d`'s block, as a column of the whole array. -/
def wcol (d : Fin 32) (c : Fin 512) : Fin 16384 := ⟨d.val * 512 + c.val, by have := d.isLt; have := c.isLt; omega⟩

theorem sum_cols (f : Fin 16384 → EReal) : ∑ C, f C = ∑ d : Fin 32, ∑ c : Fin 512, f (wcol d c) := by
  rw [← Fintype.sum_prod_type' (fun d c => f (wcol d c))]
  refine (Equiv.sum_comp (finProdFinEquiv (m := 32) (n := 512)) f).symm.trans (Finset.sum_congr rfl fun x _ => congrArg f (Fin.ext ?_))
  show x.2.val + 512 * x.1.val = x.1.val * 512 + x.2.val
  omega

theorem wcol_head (d : Fin 32) (c : Fin 512) (t : Fin 64) : colOf (headOf (wcol d c)) t = wcol d (hcol c t) := Fin.ext (by
  show (d.val * 512 + c.val) / 64 * 64 + t.val = d.val * 512 + (64 * (c.val / 64) + t.val)
  omega)
theorem col_eta (C : Fin 16384) : colOf (headOf C) (inHead C) = C := Fin.ext (by
  show C.val / 64 * 64 + C.val % 64 = C.val
  omega)

variable (x0 : (⟨S512x768, .bf16⟩ : BufTy).Contents (Elt Ideal)) (x1 x2 x3 : (⟨S768x16384, .bf16⟩ : BufTy).Contents (Elt Ideal))
  (x4 : (⟨S16384x768, .bf16⟩ : BufTy).Contents (Elt Ideal))
  (h0 : ∀ i, IsRe (x0 i)) (h1 : ∀ i, IsRe (x1 i)) (h2 : ∀ i, IsRe (x2 i))
include h0 h1 h2

theorem scores_real (i : S2x256x256x256.Idx) : IsRe (val_main_v17 (F := Ideal) x0 x1 x2 i) := by
  obtain ⟨b, h, r, j, rfl⟩ : ∃ (b : Fin 2) (h r j : Fin 256), i = ix4 b h r j := ⟨i 0, i 1, i 2, i 3, eq_ix4 i⟩
  rw [v17_at]
  obtain ⟨s, -, hs⟩ := score_real (fun n => x0 (ix2 (rowOf b r) n)) (fun n => x0 (ix2 (rowOf b j) n)) (fun n t => x1 (ix2 n (colOf h t)))
    (fun n t => x2 (ix2 n (colOf h t))) (fun n => h0 _) (fun n => h0 _) (fun n t => h1 _) (fun n t => h2 _)
  exact ⟨s, hs⟩

/-- A device's share is the reference's sum over that device's columns. -/
theorem share_block (d : Fin 32) (b : Fin 2) (r : Fin 256) (e : Fin 768) :
    share (fun i n => x0 (ix2 (rowOf b i) n)) (fun n c => x1 (ix2 n (wcol d c))) (fun n c => x2 (ix2 n (wcol d c)))
      (fun n c => x3 (ix2 n (wcol d c))) (fun c e => x4 (ix2 (wcol d c) e)) r e
    = ∑ c : Fin 512, (val_main_v38 (F := Ideal) x0 x1 x2 x3 (ix4 b r (headOf (wcol d c)) (inHead (wcol d c))) * x4 (ix2 (wcol d c) e) : EReal) := by
  unfold share
  refine Finset.sum_congr rfl fun c _ => ?_
  rw [v38_attn x0 x1 x2 x3 (scores_real x0 x1 x2 h0 h1 h2), col_eta]
  refine congrArg (· * _) ?_
  have key : ∀ j : Fin 256, (∑ t, (∑ n, x0 (ix2 (rowOf b r) n) * (x1 (ix2 n (wcol d (hcol c t))) * ((1 / 8 : ℝ) : EReal)))
      * (∑ n, x0 (ix2 (rowOf b j) n) * x2 (ix2 n (wcol d (hcol c t)))) : EReal) = rsc x0 x1 x2 b (headOf (wcol d c)) r j := fun j => by
    obtain ⟨s, e1, e2⟩ := score_real (fun n => x0 (ix2 (rowOf b r) n)) (fun n => x0 (ix2 (rowOf b j) n))
      (fun n t => x1 (ix2 n (wcol d (hcol c t)))) (fun n t => x2 (ix2 n (wcol d (hcol c t)))) (fun n => h0 _) (fun n => h0 _)
      (fun n t => h1 _) (fun n t => h2 _)
    refine e1.trans (e2.symm.trans ?_)
    unfold rsc pr
    simp only [wcol_head]
  unfold attn
  simp only [key]
  rfl

end Columns

/-! ## The whole result -/

section Whole
open Cert.KernelIdeal Cert.KernelIdeal.Gen

theorem abs_bit {x : EReal} (h : Ideal.cmp .olt (max x (-x)) (Ideal.ofBits .bf16 0x7F80#16) = 1#1) : IsRe x := by
  have ht : Ideal.ofBits .bf16 0x7F80#16 = ⊤ := by simp [Ideal.ofBits, Ideal.ieee]
  rw [ht] at h
  refine fin_of_abs ?_
  by_contra hn
  simp [Ideal.cmp, hn] at h

instance pre_kernel_facts : Cert.Pre_scores_finite_KernelIdeal.Facts := ⟨by decide, by decide⟩
instance pre_reference_facts : Cert.Pre_scores_finite_ReferenceIdeal.Facts := ⟨by decide, by decide⟩

theorem pre_real (m : (ℓ : Loc nD τ sig) → Buf (Elt Ideal) ℓ) (h : Cert.Pre_KernelIdeal_scores_finite_KernelIdeal m) (c : Dev nD) :
    (∀ i, IsRe (m ((c.tc : Thread nD τ).loc main_arg0) i)) ∧ (∀ i, IsRe (m ((c.tc : Thread nD τ).loc main_arg1) i))
      ∧ (∀ i, IsRe (m ((c.tc : Thread nD τ).loc main_arg2) i)) :=
  ⟨fun i => abs_bit (congrFun (h c).1 i), fun i => abs_bit (congrFun (h c).2.1 i), fun i => abs_bit (congrFun (h c).2.2 i)⟩

theorem block_col {α : Type} (d : Fin 32) (v : (⟨2, ![768, 16384]⟩ : Shape).Idx → α) (n : Fin 768) (c : Fin 512) :
    Layout.block ⟨2, ![768, 512]⟩ ⟨2, ![768, 16384]⟩ 1 32 d v (by decide) (ix2 n c) = v (ix2 n (wcol d c)) :=
  congrArg v (funext fun a => Fin.ext (by
    match a with
    | ⟨0, _⟩ => rfl
    | ⟨1, _⟩ => rfl))
theorem block_row {α : Type} (d : Fin 32) (v : (⟨2, ![16384, 768]⟩ : Shape).Idx → α) (c : Fin 512) (e : Fin 768) :
    Layout.block ⟨2, ![512, 768]⟩ ⟨2, ![16384, 768]⟩ 0 32 d v (by decide) (ix2 c e) = v (ix2 (wcol d c) e) :=
  congrArg v (funext fun a => Fin.ext (by
    match a with
    | ⟨0, _⟩ => rfl
    | ⟨1, _⟩ => rfl))

/-- Every column of the whole array is a column of some device's block. -/
theorem real_of_blocks (v : (⟨2, ![768, 16384]⟩ : Shape).Idx → EReal)
    (h : ∀ (d : Fin 32) i, IsRe (Layout.block ⟨2, ![768, 512]⟩ ⟨2, ![768, 16384]⟩ 1 32 d v (by decide) i)) (i : (⟨2, ![768, 16384]⟩ : Shape).Idx) :
    IsRe (v i) := by
  obtain ⟨n, C, rfl⟩ : ∃ (n : Fin 768) (C : Fin 16384), i = ix2 n C := ⟨i 0, i 1, eq_ix2 i⟩
  have hC := C.isLt
  have := h ⟨C.val / 512, by omega⟩ (ix2 n (⟨C.val % 512, Nat.mod_lt _ (by decide)⟩ : Fin 512))
  rw [block_col] at this
  rwa [show wcol ⟨C.val / 512, by omega⟩ ⟨C.val % 512, Nat.mod_lt _ (by decide)⟩ = C from Fin.ext (by
    show C.val / 512 * 512 + C.val % 512 = C.val; omega)] at this

theorem result_eq (m : (ℓ : Loc nD τ sig) → Buf (Elt Ideal) ℓ) (ρ : Dev nD → PrngReg) (hpre : Cert.Pre_KernelIdeal_scores_finite_KernelIdeal m)
    (x0 : (⟨2, ![512, 768]⟩ : Shape).Idx → EReal) (x1 x2 x3 : (⟨2, ![768, 16384]⟩ : Shape).Idx → EReal) (x4 : (⟨2, ![16384, 768]⟩ : Shape).Idx → EReal)
    (e0 : ∀ c : Dev nD, m ((c.tc : Thread nD τ).loc main_arg0) = x0)
    (e1 : ∀ c : Dev nD, m ((c.tc : Thread nD τ).loc main_arg1) = Layout.block ⟨2, ![768, 512]⟩ ⟨2, ![768, 16384]⟩ 1 32 c x1)
    (e2 : ∀ c : Dev nD, m ((c.tc : Thread nD τ).loc main_arg2) = Layout.block ⟨2, ![768, 512]⟩ ⟨2, ![768, 16384]⟩ 1 32 c x2)
    (e3 : ∀ c : Dev nD, m ((c.tc : Thread nD τ).loc main_arg3) = Layout.block ⟨2, ![768, 512]⟩ ⟨2, ![768, 16384]⟩ 1 32 c x3)
    (e4 : ∀ c : Dev nD, m ((c.tc : Thread nD τ).loc main_arg4) = Layout.block ⟨2, ![512, 768]⟩ ⟨2, ![16384, 768]⟩ 0 32 c x4) (c : Dev nD) :
    finalA m ρ c (5 : Fin 6) = Cert.ReferenceIdeal.Read.val_main_v41 (F := Ideal) x0 x1 x2 x3 x4 := by
  have h0 : ∀ i, IsRe (x0 i) := by
    have := (pre_real m hpre c).1
    rwa [e0] at this
  have h1 : ∀ i, IsRe (x1 i) := real_of_blocks x1 fun d => by
    have := (pre_real m hpre d).2.1
    rwa [e1] at this
  have h2 : ∀ i, IsRe (x2 i) := real_of_blocks x2 fun d => by
    have := (pre_real m hpre d).2.2
    rwa [e2] at this
  rw [final_out]
  funext i
  have hi : (i 0).val < 512 := (i 0).isLt
  refine (congrArg (OUTF m ρ c) (mk_eta (n := 512) i).symm).trans ((OUTF_apply m ρ c (i 0) (i 1)).trans ?_)
  have hrow : i = ix2 (rowOf ⟨bOf (i 0), by show (i 0).val / 256 < 2; omega⟩ (rOf (i 0))) (i 1) := by
    funext a
    match a with
    | ⟨0, _⟩ => exact Fin.ext (by show (i 0).val = (i 0).val / 256 * 256 + (i 0).val % 256; omega)
    | ⟨1, _⟩ => rfl
  refine Eq.trans ?_ (congrArg (Cert.ReferenceIdeal.Read.val_main_v41 (F := Ideal) x0 x1 x2 x3 x4) hrow).symm
  refine Eq.trans ?_ ((v41_at x0 x1 x2 x3 x4 _ _ _).trans (sum_cols _)).symm
  refine Finset.sum_congr rfl fun d _ => ?_
  refine Eq.trans ?_ (share_block x0 x1 x2 x3 x4 h0 h1 h2 d _ _ _)
  unfold shr
  have a0 : xs m ρ d = x0 := (xs_eq m ρ d).trans (e0 d)
  have a1 : ∀ n c, wq m ρ d (ix2 n c) = x1 (ix2 n (wcol d c)) := fun n c => (congrFun ((wq_eq m ρ d).trans (e1 d)) _).trans (block_col d x1 n c)
  have a2 : ∀ n c, wk m ρ d (ix2 n c) = x2 (ix2 n (wcol d c)) := fun n c => (congrFun ((wk_eq m ρ d).trans (e2 d)) _).trans (block_col d x2 n c)
  have a3 : ∀ n c, wv m ρ d (ix2 n c) = x3 (ix2 n (wcol d c)) := fun n c => (congrFun ((wv_eq m ρ d).trans (e3 d)) _).trans (block_col d x3 n c)
  have a4 : ∀ c e, wo m ρ d (ix2 c e) = x4 (ix2 (wcol d c) e) := fun c e => (congrFun ((wo_eq m ρ d).trans (e4 d)) _).trans (block_row d x4 c e)
  have ar : ∀ r n, xs m ρ d (mk (n := 512) (brow (bOf (i 0)) r) n) = x0 (ix2 (rowOf ⟨bOf (i 0), by show (i 0).val / 256 < 2; omega⟩ r) n) := fun r n => by
    rw [a0, mk_ix2]
    refine congrArg (fun z => x0 (ix2 z n)) (Fin.ext ?_)
    show (i 0).val / 256 % 2 * 256 + r.val = (i 0).val / 256 * 256 + r.val
    omega
  simp only [a1, a2, a3, a4, ar]

/-- The kernel's result on every device is the reference's. -/
theorem same_result : Cert.algebraic_KernelIdeal_ReferenceIdeal_pre_scores_finite_KernelIdeal := fun m g m' g' hpre hargs => by
  refine ⟨_, ?_, (θ_run (Cert.ReferenceIdeal.defs (F := Ideal)) _ _).mono (fun r h => h 0) (Cert.ReferenceIdeal.Value.run (F := Ideal) m' g')⟩
  refine (θ_run (defs (F := Ideal)) _ _).mono (fun r h c => ⟨(h.1 c).1.trans ?_, (h.1 c).2⟩) (run_kernel (F := Ideal) m g)
  rw [Cert.ReferenceIdeal.Read.val_main_v41_eq]
  exact result_eq m g hpre _ _ _ _ _ (fun c => (hargs c).1) (fun c => (hargs c).2.1) (fun c => (hargs c).2.2.1) (fun c => (hargs c).2.2.2.1)
    (fun c => (hargs c).2.2.2.2) c

theorem frame_ideal_pre : Cert.quiescent_KernelIdeal_pre_scores_finite_KernelIdeal := fun m g _ => frame_ideal m g trivial
theorem frame_reference_pre : Cert.quiescent_ReferenceIdeal_pre_scores_finite_ReferenceIdeal := fun m g _ => frame_reference m g trivial

end Whole

end Cert.Htp

end
-- ==== Proof.lean ====
/- The certificate: each claim by its theorem. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.K.Frames
public import proofs.«01_k».proof.Proof.K.ValEq
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Htp.pre_kernel_facts, Cert.Htp.pre_reference_facts, Cert.Htp.frame_kernel, Cert.Htp.frame_ideal, Cert.Htp.frame_ideal_pre,
  Cert.Htp.frame_reference, Cert.Htp.frame_reference_pre, trivial, Cert.Htp.same_result⟩

end Cert.Proof

end
